-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpReferenceIdeal (m : (ℓ : Loc Cert.OutpReferenceIdeal.nD Cert.OutpReferenceIdeal.τ Cert.OutpReferenceIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6)
      ∧ r.2.mem ((c.tc : Thread Cert.Outp.nD Cert.Outp.τ).loc Cert.Outp.main_arg7) = m ((c.tc : Thread Cert.Outp.nD Cert.Outp.τ).loc Cert.Outp.main_arg7)
      ∧ r.2.mem ((c.tc : Thread Cert.Outp.nD Cert.Outp.τ).loc Cert.Outp.main_arg8) = m ((c.tc : Thread Cert.Outp.nD Cert.Outp.τ).loc Cert.Outp.main_arg8)
      ∧ r.2.mem ((c.tc : Thread Cert.Outp.nD Cert.Outp.τ).loc Cert.Outp.main_arg9) = m ((c.tc : Thread Cert.Outp.nD Cert.Outp.τ).loc Cert.Outp.main_arg9))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
      ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
      ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
      ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9))
      ∧ r.2.sem = fun _ => 0)

def quiescent_OutpReferenceIdeal [hOutpReferenceIdeal : Cert.OutpReferenceIdeal.Facts] : Prop :=
  ∀ (m : (ℓ : Loc Cert.OutpReferenceIdeal.nD Cert.OutpReferenceIdeal.τ Cert.OutpReferenceIdeal.sig) → Buf (Elt Ideal) ℓ) (g : Dev Cert.OutpReferenceIdeal.nD → PrngReg), Pre_OutpReferenceIdeal m →
    θ_run (Cert.OutpReferenceIdeal.defs (F := Ideal)) (onTc (τ := Cert.OutpReferenceIdeal.τ) (Cert.OutpReferenceIdeal.main (F := Ideal))) ⟨m, fun _ => 0, g⟩ (fun r => (∀ c : Dev Cert.OutpReferenceIdeal.nD,
      r.2.mem ((c.tc : Thread Cert.OutpReferenceIdeal.nD Cert.OutpReferenceIdeal.τ).loc Cert.OutpReferenceIdeal.main_arg0) = m ((c.tc : Thread Cert.OutpReferenceIdeal.nD Cert.OutpReferenceIdeal.τ).loc Cert.OutpReferenceIdeal.main_arg0)
      ∧ r.2.mem ((c.tc : Thread Cert.OutpReferenceIdeal.nD Cert.OutpReferenceIdeal.τ).loc Cert.OutpReferenceIdeal.main_arg1) = m ((c.tc : Thread Cert.OutpReferenceIdeal.nD Cert.OutpReferenceIdeal.τ).loc Cert.OutpReferenceIdeal.main_arg1)
      ∧ r.2.mem ((c.tc : Thread Cert.OutpReferenceIdeal.nD Cert.OutpReferenceIdeal.τ).loc Cert.OutpReferenceIdeal.main_arg2) = m ((c.tc : Thread Cert.OutpReferenceIdeal.nD Cert.OutpReferenceIdeal.τ).loc Cert.OutpReferenceIdeal.main_arg2)
      ∧ r.2.mem ((c.tc : Thread Cert.OutpReferenceIdeal.nD Cert.OutpReferenceIdeal.τ).loc Cert.OutpReferenceIdeal.main_arg3) = m ((c.tc : Thread Cert.OutpReferenceIdeal.nD Cert.OutpReferenceIdeal.τ).loc Cert.OutpReferenceIdeal.main_arg3)
      ∧ r.2.mem ((c.tc : Thread Cert.OutpReferenceIdeal.nD Cert.OutpReferenceIdeal.τ).loc Cert.OutpReferenceIdeal.main_arg4) = m ((c.tc : Thread Cert.OutpReferenceIdeal.nD Cert.OutpReferenceIdeal.τ).loc Cert.OutpReferenceIdeal.main_arg4)
      ∧ r.2.mem ((c.tc : Thread Cert.OutpReferenceIdeal.nD Cert.OutpReferenceIdeal.τ).loc Cert.OutpReferenceIdeal.main_arg5) = m ((c.tc : Thread Cert.OutpReferenceIdeal.nD Cert.OutpReferenceIdeal.τ).loc Cert.OutpReferenceIdeal.main_arg5)
      ∧ r.2.mem ((c.tc : Thread Cert.OutpReferenceIdeal.nD Cert.OutpReferenceIdeal.τ).loc Cert.OutpReferenceIdeal.main_arg6) = m ((c.tc : Thread Cert.OutpReferenceIdeal.nD Cert.OutpReferenceIdeal.τ).loc Cert.OutpReferenceIdeal.main_arg6)
      ∧ r.2.mem ((c.tc : Thread Cert.OutpReferenceIdeal.nD Cert.OutpReferenceIdeal.τ).loc Cert.OutpReferenceIdeal.main_arg7) = m ((c.tc : Thread Cert.OutpReferenceIdeal.nD Cert.OutpReferenceIdeal.τ).loc Cert.OutpReferenceIdeal.main_arg7)
      ∧ r.2.mem ((c.tc : Thread Cert.OutpReferenceIdeal.nD Cert.OutpReferenceIdeal.τ).loc Cert.OutpReferenceIdeal.main_arg8) = m ((c.tc : Thread Cert.OutpReferenceIdeal.nD Cert.OutpReferenceIdeal.τ).loc Cert.OutpReferenceIdeal.main_arg8)
      ∧ r.2.mem ((c.tc : Thread Cert.OutpReferenceIdeal.nD Cert.OutpReferenceIdeal.τ).loc Cert.OutpReferenceIdeal.main_arg9) = m ((c.tc : Thread Cert.OutpReferenceIdeal.nD Cert.OutpReferenceIdeal.τ).loc Cert.OutpReferenceIdeal.main_arg9))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8)
      ∧ r.2.mem ((c.tc : Thread Cert.Inp.nD Cert.Inp.τ).loc Cert.Inp.main_arg9) = m ((c.tc : Thread Cert.Inp.nD Cert.Inp.τ).loc Cert.Inp.main_arg9)
      ∧ r.2.mem ((c.tc : Thread Cert.Inp.nD Cert.Inp.τ).loc Cert.Inp.main_arg10) = m ((c.tc : Thread Cert.Inp.nD Cert.Inp.τ).loc Cert.Inp.main_arg10)
      ∧ r.2.mem ((c.tc : Thread Cert.Inp.nD Cert.Inp.τ).loc Cert.Inp.main_arg11) = m ((c.tc : Thread Cert.Inp.nD Cert.Inp.τ).loc Cert.Inp.main_arg11))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
      ∧ r.2.mem ((c.tc : Thread Cert.InpIdeal.nD Cert.InpIdeal.τ).loc Cert.InpIdeal.main_arg10) = m ((c.tc : Thread Cert.InpIdeal.nD Cert.InpIdeal.τ).loc Cert.InpIdeal.main_arg10)
      ∧ r.2.mem ((c.tc : Thread Cert.InpIdeal.nD Cert.InpIdeal.τ).loc Cert.InpIdeal.main_arg11) = m ((c.tc : Thread Cert.InpIdeal.nD Cert.InpIdeal.τ).loc Cert.InpIdeal.main_arg11))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5)
      ∧ r.2.mem ((c.tc : Thread Cert.InpReferenceIdeal.nD Cert.InpReferenceIdeal.τ).loc Cert.InpReferenceIdeal.main_arg6) = m ((c.tc : Thread Cert.InpReferenceIdeal.nD Cert.InpReferenceIdeal.τ).loc Cert.InpReferenceIdeal.main_arg6)
      ∧ r.2.mem ((c.tc : Thread Cert.InpReferenceIdeal.nD Cert.InpReferenceIdeal.τ).loc Cert.InpReferenceIdeal.main_arg7) = m ((c.tc : Thread Cert.InpReferenceIdeal.nD Cert.InpReferenceIdeal.τ).loc Cert.InpReferenceIdeal.main_arg7)
      ∧ r.2.mem ((c.tc : Thread Cert.InpReferenceIdeal.nD Cert.InpReferenceIdeal.τ).loc Cert.InpReferenceIdeal.main_arg8) = m ((c.tc : Thread Cert.InpReferenceIdeal.nD Cert.InpReferenceIdeal.τ).loc Cert.InpReferenceIdeal.main_arg8)
      ∧ r.2.mem ((c.tc : Thread Cert.InpReferenceIdeal.nD Cert.InpReferenceIdeal.τ).loc Cert.InpReferenceIdeal.main_arg9) = m ((c.tc : Thread Cert.InpReferenceIdeal.nD Cert.InpReferenceIdeal.τ).loc Cert.InpReferenceIdeal.main_arg9)
      ∧ r.2.mem ((c.tc : Thread Cert.InpReferenceIdeal.nD Cert.InpReferenceIdeal.τ).loc Cert.InpReferenceIdeal.main_arg10) = m ((c.tc : Thread Cert.InpReferenceIdeal.nD Cert.InpReferenceIdeal.τ).loc Cert.InpReferenceIdeal.main_arg10)
      ∧ r.2.mem ((c.tc : Thread Cert.InpReferenceIdeal.nD Cert.InpReferenceIdeal.τ).loc Cert.InpReferenceIdeal.main_arg11) = m ((c.tc : Thread Cert.InpReferenceIdeal.nD Cert.InpReferenceIdeal.τ).loc Cert.InpReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Outp_OutpIdeal : Prop :=
  True

def algebraic_OutpIdeal_OutpReferenceIdeal [hOutpIdeal : Cert.OutpIdeal.Facts] [hOutpReferenceIdeal : Cert.OutpReferenceIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpReferenceIdeal.nD Cert.OutpReferenceIdeal.τ Cert.OutpReferenceIdeal.sig) → Buf (Elt Ideal) ℓ) (g' : Dev Cert.OutpReferenceIdeal.nD → PrngReg), Pre_OutpIdeal m →
    (∀ c : Dev Cert.OutpIdeal.nD,
      m' ((c.tc : Thread Cert.OutpReferenceIdeal.nD Cert.OutpReferenceIdeal.τ).loc Cert.OutpReferenceIdeal.main_arg0) = m ((c.tc : Thread Cert.OutpIdeal.nD Cert.OutpIdeal.τ).loc Cert.OutpIdeal.main_arg0)
      ∧ m' ((c.tc : Thread Cert.OutpReferenceIdeal.nD Cert.OutpReferenceIdeal.τ).loc Cert.OutpReferenceIdeal.main_arg1) = m ((c.tc : Thread Cert.OutpIdeal.nD Cert.OutpIdeal.τ).loc Cert.OutpIdeal.main_arg1)
      ∧ m' ((c.tc : Thread Cert.OutpReferenceIdeal.nD Cert.OutpReferenceIdeal.τ).loc Cert.OutpReferenceIdeal.main_arg2) = m ((c.tc : Thread Cert.OutpIdeal.nD Cert.OutpIdeal.τ).loc Cert.OutpIdeal.main_arg2)
      ∧ m' ((c.tc : Thread Cert.OutpReferenceIdeal.nD Cert.OutpReferenceIdeal.τ).loc Cert.OutpReferenceIdeal.main_arg3) = m ((c.tc : Thread Cert.OutpIdeal.nD Cert.OutpIdeal.τ).loc Cert.OutpIdeal.main_arg3)
      ∧ m' ((c.tc : Thread Cert.OutpReferenceIdeal.nD Cert.OutpReferenceIdeal.τ).loc Cert.OutpReferenceIdeal.main_arg4) = m ((c.tc : Thread Cert.OutpIdeal.nD Cert.OutpIdeal.τ).loc Cert.OutpIdeal.main_arg4)
      ∧ m' ((c.tc : Thread Cert.OutpReferenceIdeal.nD Cert.OutpReferenceIdeal.τ).loc Cert.OutpReferenceIdeal.main_arg5) = m ((c.tc : Thread Cert.OutpIdeal.nD Cert.OutpIdeal.τ).loc Cert.OutpIdeal.main_arg5)
      ∧ m' ((c.tc : Thread Cert.OutpReferenceIdeal.nD Cert.OutpReferenceIdeal.τ).loc Cert.OutpReferenceIdeal.main_arg6) = m ((c.tc : Thread Cert.OutpIdeal.nD Cert.OutpIdeal.τ).loc Cert.OutpIdeal.main_arg6)
      ∧ m' ((c.tc : Thread Cert.OutpReferenceIdeal.nD Cert.OutpReferenceIdeal.τ).loc Cert.OutpReferenceIdeal.main_arg7) = m ((c.tc : Thread Cert.OutpIdeal.nD Cert.OutpIdeal.τ).loc Cert.OutpIdeal.main_arg7)
      ∧ m' ((c.tc : Thread Cert.OutpReferenceIdeal.nD Cert.OutpReferenceIdeal.τ).loc Cert.OutpReferenceIdeal.main_arg8) = m ((c.tc : Thread Cert.OutpIdeal.nD Cert.OutpIdeal.τ).loc Cert.OutpIdeal.main_arg8)
      ∧ m' ((c.tc : Thread Cert.OutpReferenceIdeal.nD Cert.OutpReferenceIdeal.τ).loc Cert.OutpReferenceIdeal.main_arg9) = m ((c.tc : Thread Cert.OutpIdeal.nD Cert.OutpIdeal.τ).loc Cert.OutpIdeal.main_arg9)) →
    ∃ (v0 : (c : Dev Cert.OutpIdeal.nD) → Buf (Elt Ideal) ((c.tc : Thread Cert.OutpIdeal.nD Cert.OutpIdeal.τ).loc Cert.OutpIdeal.main_v0_0)) (v1 : (c : Dev Cert.OutpIdeal.nD) → Buf (Elt Ideal) ((c.tc : Thread Cert.OutpIdeal.nD Cert.OutpIdeal.τ).loc Cert.OutpIdeal.main_v0_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v0_0) = v0 c
          ∧ r.2.mem ((c.tc : Thread Cert.OutpIdeal.nD Cert.OutpIdeal.τ).loc Cert.OutpIdeal.main_v0_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
          ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
          ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
          ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9))
      ∧ θ_run (Cert.OutpReferenceIdeal.defs (F := Ideal)) (onTc (τ := Cert.OutpReferenceIdeal.τ) (Cert.OutpReferenceIdeal.main (F := Ideal))) ⟨m', fun _ => 0, g'⟩ (fun r => ∀ c : Dev Cert.OutpReferenceIdeal.nD,
          r.2.mem ((c.tc : Thread Cert.OutpReferenceIdeal.nD Cert.OutpReferenceIdeal.τ).loc Cert.OutpReferenceIdeal.main_v31) = v0 c
          ∧ r.2.mem ((c.tc : Thread Cert.OutpReferenceIdeal.nD Cert.OutpReferenceIdeal.τ).loc Cert.OutpReferenceIdeal.main_v50) = v1 c
          ∧ r.2.mem ((c.tc : Thread Cert.OutpReferenceIdeal.nD Cert.OutpReferenceIdeal.τ).loc Cert.OutpReferenceIdeal.main_arg0) = m' ((c.tc : Thread Cert.OutpReferenceIdeal.nD Cert.OutpReferenceIdeal.τ).loc Cert.OutpReferenceIdeal.main_arg0)
          ∧ r.2.mem ((c.tc : Thread Cert.OutpReferenceIdeal.nD Cert.OutpReferenceIdeal.τ).loc Cert.OutpReferenceIdeal.main_arg1) = m' ((c.tc : Thread Cert.OutpReferenceIdeal.nD Cert.OutpReferenceIdeal.τ).loc Cert.OutpReferenceIdeal.main_arg1)
          ∧ r.2.mem ((c.tc : Thread Cert.OutpReferenceIdeal.nD Cert.OutpReferenceIdeal.τ).loc Cert.OutpReferenceIdeal.main_arg2) = m' ((c.tc : Thread Cert.OutpReferenceIdeal.nD Cert.OutpReferenceIdeal.τ).loc Cert.OutpReferenceIdeal.main_arg2)
          ∧ r.2.mem ((c.tc : Thread Cert.OutpReferenceIdeal.nD Cert.OutpReferenceIdeal.τ).loc Cert.OutpReferenceIdeal.main_arg3) = m' ((c.tc : Thread Cert.OutpReferenceIdeal.nD Cert.OutpReferenceIdeal.τ).loc Cert.OutpReferenceIdeal.main_arg3)
          ∧ r.2.mem ((c.tc : Thread Cert.OutpReferenceIdeal.nD Cert.OutpReferenceIdeal.τ).loc Cert.OutpReferenceIdeal.main_arg4) = m' ((c.tc : Thread Cert.OutpReferenceIdeal.nD Cert.OutpReferenceIdeal.τ).loc Cert.OutpReferenceIdeal.main_arg4)
          ∧ r.2.mem ((c.tc : Thread Cert.OutpReferenceIdeal.nD Cert.OutpReferenceIdeal.τ).loc Cert.OutpReferenceIdeal.main_arg5) = m' ((c.tc : Thread Cert.OutpReferenceIdeal.nD Cert.OutpReferenceIdeal.τ).loc Cert.OutpReferenceIdeal.main_arg5)
          ∧ r.2.mem ((c.tc : Thread Cert.OutpReferenceIdeal.nD Cert.OutpReferenceIdeal.τ).loc Cert.OutpReferenceIdeal.main_arg6) = m' ((c.tc : Thread Cert.OutpReferenceIdeal.nD Cert.OutpReferenceIdeal.τ).loc Cert.OutpReferenceIdeal.main_arg6)
          ∧ r.2.mem ((c.tc : Thread Cert.OutpReferenceIdeal.nD Cert.OutpReferenceIdeal.τ).loc Cert.OutpReferenceIdeal.main_arg7) = m' ((c.tc : Thread Cert.OutpReferenceIdeal.nD Cert.OutpReferenceIdeal.τ).loc Cert.OutpReferenceIdeal.main_arg7)
          ∧ r.2.mem ((c.tc : Thread Cert.OutpReferenceIdeal.nD Cert.OutpReferenceIdeal.τ).loc Cert.OutpReferenceIdeal.main_arg8) = m' ((c.tc : Thread Cert.OutpReferenceIdeal.nD Cert.OutpReferenceIdeal.τ).loc Cert.OutpReferenceIdeal.main_arg8)
          ∧ r.2.mem ((c.tc : Thread Cert.OutpReferenceIdeal.nD Cert.OutpReferenceIdeal.τ).loc Cert.OutpReferenceIdeal.main_arg9) = m' ((c.tc : Thread Cert.OutpReferenceIdeal.nD Cert.OutpReferenceIdeal.τ).loc Cert.OutpReferenceIdeal.main_arg9))

def preserves_Inp_InpIdeal : Prop :=
  True

def algebraic_InpIdeal_InpReferenceIdeal [hInpIdeal : Cert.InpIdeal.Facts] [hInpReferenceIdeal : Cert.InpReferenceIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpIdeal m →
    (∀ c : Dev Cert.InpIdeal.nD,
      m' ((c.tc : Thread Cert.InpReferenceIdeal.nD Cert.InpReferenceIdeal.τ).loc Cert.InpReferenceIdeal.main_arg0) = m ((c.tc : Thread Cert.InpIdeal.nD Cert.InpIdeal.τ).loc Cert.InpIdeal.main_arg0)
      ∧ m' ((c.tc : Thread Cert.InpReferenceIdeal.nD Cert.InpReferenceIdeal.τ).loc Cert.InpReferenceIdeal.main_arg1) = m ((c.tc : Thread Cert.InpIdeal.nD Cert.InpIdeal.τ).loc Cert.InpIdeal.main_arg1)
      ∧ m' ((c.tc : Thread Cert.InpReferenceIdeal.nD Cert.InpReferenceIdeal.τ).loc Cert.InpReferenceIdeal.main_arg2) = m ((c.tc : Thread Cert.InpIdeal.nD Cert.InpIdeal.τ).loc Cert.InpIdeal.main_arg2)
      ∧ m' ((c.tc : Thread Cert.InpReferenceIdeal.nD Cert.InpReferenceIdeal.τ).loc Cert.InpReferenceIdeal.main_arg3) = m ((c.tc : Thread Cert.InpIdeal.nD Cert.InpIdeal.τ).loc Cert.InpIdeal.main_arg3)
      ∧ m' ((c.tc : Thread Cert.InpReferenceIdeal.nD Cert.InpReferenceIdeal.τ).loc Cert.InpReferenceIdeal.main_arg4) = m ((c.tc : Thread Cert.InpIdeal.nD Cert.InpIdeal.τ).loc Cert.InpIdeal.main_arg4)
      ∧ m' ((c.tc : Thread Cert.InpReferenceIdeal.nD Cert.InpReferenceIdeal.τ).loc Cert.InpReferenceIdeal.main_arg5) = m ((c.tc : Thread Cert.InpIdeal.nD Cert.InpIdeal.τ).loc Cert.InpIdeal.main_arg5)
      ∧ m' ((c.tc : Thread Cert.InpReferenceIdeal.nD Cert.InpReferenceIdeal.τ).loc Cert.InpReferenceIdeal.main_arg6) = m ((c.tc : Thread Cert.InpIdeal.nD Cert.InpIdeal.τ).loc Cert.InpIdeal.main_arg6)
      ∧ m' ((c.tc : Thread Cert.InpReferenceIdeal.nD Cert.InpReferenceIdeal.τ).loc Cert.InpReferenceIdeal.main_arg7) = m ((c.tc : Thread Cert.InpIdeal.nD Cert.InpIdeal.τ).loc Cert.InpIdeal.main_arg7)
      ∧ m' ((c.tc : Thread Cert.InpReferenceIdeal.nD Cert.InpReferenceIdeal.τ).loc Cert.InpReferenceIdeal.main_arg8) = m ((c.tc : Thread Cert.InpIdeal.nD Cert.InpIdeal.τ).loc Cert.InpIdeal.main_arg8)
      ∧ m' ((c.tc : Thread Cert.InpReferenceIdeal.nD Cert.InpReferenceIdeal.τ).loc Cert.InpReferenceIdeal.main_arg9) = m ((c.tc : Thread Cert.InpIdeal.nD Cert.InpIdeal.τ).loc Cert.InpIdeal.main_arg9)
      ∧ m' ((c.tc : Thread Cert.InpReferenceIdeal.nD Cert.InpReferenceIdeal.τ).loc Cert.InpReferenceIdeal.main_arg10) = m ((c.tc : Thread Cert.InpIdeal.nD Cert.InpIdeal.τ).loc Cert.InpIdeal.main_arg10)
      ∧ m' ((c.tc : Thread Cert.InpReferenceIdeal.nD Cert.InpReferenceIdeal.τ).loc Cert.InpReferenceIdeal.main_arg11) = m ((c.tc : Thread Cert.InpIdeal.nD Cert.InpIdeal.τ).loc Cert.InpIdeal.main_arg11)) →
    ∃ (v0 : (c : Dev Cert.InpIdeal.nD) → Buf (Elt Ideal) ((c.tc : Thread Cert.InpIdeal.nD Cert.InpIdeal.τ).loc Cert.InpIdeal.main_v0_2)) (v1 : (c : Dev Cert.InpIdeal.nD) → Buf (Elt Ideal) ((c.tc : Thread Cert.InpIdeal.nD Cert.InpIdeal.τ).loc Cert.InpIdeal.main_v0_3)) (v2 : (c : Dev Cert.InpIdeal.nD) → Buf (Elt Ideal) ((c.tc : Thread Cert.InpIdeal.nD Cert.InpIdeal.τ).loc Cert.InpIdeal.main_v0_4)) (v3 : (c : Dev Cert.InpIdeal.nD) → Buf (Elt Ideal) ((c.tc : Thread Cert.InpIdeal.nD Cert.InpIdeal.τ).loc Cert.InpIdeal.main_v0_5)) (v4 : (c : Dev Cert.InpIdeal.nD) → Buf (Elt Ideal) ((c.tc : Thread Cert.InpIdeal.nD Cert.InpIdeal.τ).loc Cert.InpIdeal.main_v0_6)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_2) = v0 c
          ∧ r.2.mem ((c.tc : Thread Cert.InpIdeal.nD Cert.InpIdeal.τ).loc Cert.InpIdeal.main_v0_3) = v1 c
          ∧ r.2.mem ((c.tc : Thread Cert.InpIdeal.nD Cert.InpIdeal.τ).loc Cert.InpIdeal.main_v0_4) = v2 c
          ∧ r.2.mem ((c.tc : Thread Cert.InpIdeal.nD Cert.InpIdeal.τ).loc Cert.InpIdeal.main_v0_5) = v3 c
          ∧ r.2.mem ((c.tc : Thread Cert.InpIdeal.nD Cert.InpIdeal.τ).loc Cert.InpIdeal.main_v0_6) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
          ∧ r.2.mem ((c.tc : Thread Cert.InpIdeal.nD Cert.InpIdeal.τ).loc Cert.InpIdeal.main_arg9) = m ((c.tc : Thread Cert.InpIdeal.nD Cert.InpIdeal.τ).loc Cert.InpIdeal.main_arg9)
          ∧ r.2.mem ((c.tc : Thread Cert.InpIdeal.nD Cert.InpIdeal.τ).loc Cert.InpIdeal.main_arg10) = m ((c.tc : Thread Cert.InpIdeal.nD Cert.InpIdeal.τ).loc Cert.InpIdeal.main_arg10)
          ∧ r.2.mem ((c.tc : Thread Cert.InpIdeal.nD Cert.InpIdeal.τ).loc Cert.InpIdeal.main_arg11) = m ((c.tc : Thread Cert.InpIdeal.nD Cert.InpIdeal.τ).loc Cert.InpIdeal.main_arg11))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v46) = v0 c
          ∧ r.2.mem ((c.tc : Thread Cert.InpReferenceIdeal.nD Cert.InpReferenceIdeal.τ).loc Cert.InpReferenceIdeal.main_v48) = v1 c
          ∧ r.2.mem ((c.tc : Thread Cert.InpReferenceIdeal.nD Cert.InpReferenceIdeal.τ).loc Cert.InpReferenceIdeal.main_v50) = v2 c
          ∧ r.2.mem ((c.tc : Thread Cert.InpReferenceIdeal.nD Cert.InpReferenceIdeal.τ).loc Cert.InpReferenceIdeal.main_v52) = v3 c
          ∧ r.2.mem ((c.tc : Thread Cert.InpReferenceIdeal.nD Cert.InpReferenceIdeal.τ).loc Cert.InpReferenceIdeal.main_v32) = v4 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4)
          ∧ r.2.mem ((c.tc : Thread Cert.InpReferenceIdeal.nD Cert.InpReferenceIdeal.τ).loc Cert.InpReferenceIdeal.main_arg5) = m' ((c.tc : Thread Cert.InpReferenceIdeal.nD Cert.InpReferenceIdeal.τ).loc Cert.InpReferenceIdeal.main_arg5)
          ∧ r.2.mem ((c.tc : Thread Cert.InpReferenceIdeal.nD Cert.InpReferenceIdeal.τ).loc Cert.InpReferenceIdeal.main_arg6) = m' ((c.tc : Thread Cert.InpReferenceIdeal.nD Cert.InpReferenceIdeal.τ).loc Cert.InpReferenceIdeal.main_arg6)
          ∧ r.2.mem ((c.tc : Thread Cert.InpReferenceIdeal.nD Cert.InpReferenceIdeal.τ).loc Cert.InpReferenceIdeal.main_arg7) = m' ((c.tc : Thread Cert.InpReferenceIdeal.nD Cert.InpReferenceIdeal.τ).loc Cert.InpReferenceIdeal.main_arg7)
          ∧ r.2.mem ((c.tc : Thread Cert.InpReferenceIdeal.nD Cert.InpReferenceIdeal.τ).loc Cert.InpReferenceIdeal.main_arg8) = m' ((c.tc : Thread Cert.InpReferenceIdeal.nD Cert.InpReferenceIdeal.τ).loc Cert.InpReferenceIdeal.main_arg8)
          ∧ r.2.mem ((c.tc : Thread Cert.InpReferenceIdeal.nD Cert.InpReferenceIdeal.τ).loc Cert.InpReferenceIdeal.main_arg9) = m' ((c.tc : Thread Cert.InpReferenceIdeal.nD Cert.InpReferenceIdeal.τ).loc Cert.InpReferenceIdeal.main_arg9)
          ∧ r.2.mem ((c.tc : Thread Cert.InpReferenceIdeal.nD Cert.InpReferenceIdeal.τ).loc Cert.InpReferenceIdeal.main_arg10) = m' ((c.tc : Thread Cert.InpReferenceIdeal.nD Cert.InpReferenceIdeal.τ).loc Cert.InpReferenceIdeal.main_arg10)
          ∧ r.2.mem ((c.tc : Thread Cert.InpReferenceIdeal.nD Cert.InpReferenceIdeal.τ).loc Cert.InpReferenceIdeal.main_arg11) = m' ((c.tc : Thread Cert.InpReferenceIdeal.nD Cert.InpReferenceIdeal.τ).loc Cert.InpReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutp : Cert.Outp.Facts) (hOutpIdeal : Cert.OutpIdeal.Facts) (hOutpReferenceIdeal : Cert.OutpReferenceIdeal.Facts) (hInp : Cert.Inp.Facts) (hInpIdeal : Cert.InpIdeal.Facts) (hInpReferenceIdeal : Cert.InpReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Outp (hOutp := hOutp)
    ∧ quiescent_OutpIdeal (hOutpIdeal := hOutpIdeal)
    ∧ quiescent_OutpReferenceIdeal (hOutpReferenceIdeal := hOutpReferenceIdeal)
    ∧ quiescent_Inp (hInp := hInp)
    ∧ quiescent_InpIdeal (hInpIdeal := hInpIdeal)
    ∧ quiescent_InpReferenceIdeal (hInpReferenceIdeal := hInpReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_Outp_OutpIdeal
    ∧ algebraic_OutpIdeal_OutpReferenceIdeal (hOutpIdeal := hOutpIdeal) (hOutpReferenceIdeal := hOutpReferenceIdeal)
    ∧ preserves_Inp_InpIdeal
    ∧ algebraic_InpIdeal_InpReferenceIdeal (hInpIdeal := hInpIdeal) (hInpReferenceIdeal := hInpReferenceIdeal)
-- ==== Pre_finite_inputs.lean ====
abbrev S8x32 : Shape := ⟨2, ![8, 32]⟩
abbrev S8x128x16384 : Shape := ⟨3, ![8, 128, 16384]⟩
abbrev S8x16384x128 : Shape := ⟨3, ![8, 16384, 128]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S8x1x32x1 : Shape := ⟨4, ![8, 1, 32, 1]⟩
abbrev S8x128x32x512 : Shape := ⟨4, ![8, 128, 32, 512]⟩

class Facts : Prop where
  bcast_S_S8x32 : S_.BroadcastsInDim S8x32 (![] : Fin 0 → Fin S8x32.rank)
  bcast_S8x32_S8x1x32x1_0_2 : S8x32.BroadcastsInDim S8x1x32x1 (![0, 2] : Fin 2 → Fin S8x1x32x1.rank)
  bcast_S8x1x32x1_S8x128x32x512_0_1_2_3 : S8x1x32x1.BroadcastsInDim S8x128x32x512 (![0, 1, 2, 3] : Fin 4 → Fin S8x128x32x512.rank)
  shapeCasts_S8x128x32x512_S8x128x16384 : S8x128x32x512.ShapeCasts S8x128x16384
  bitsLt_bf16_f32 : FTy.bits .bf16 < FTy.bits .f32
  bcast_S_S8x16384x128 : S_.BroadcastsInDim S8x16384x128 (![] : Fin 0 → Fin S8x16384x128.rank)
  transposes_S8x16384x128_S8x128x16384_0_2_1 : S8x16384x128.Transposes [0, 2, 1] S8x128x16384
  bcast_S_S8x128x16384 : S_.BroadcastsInDim S8x128x16384 (![] : Fin 0 → Fin S8x128x16384.rank)

variable [Facts]

def fn_part1 {F : FTy → Type} [FloatOps F] (main_arg4 : FVec F S8x128x16384 .bf16) (main_v5 : IVec S8x128x16384 1) (main_v15 : IVec S8x128x16384 1) (main_v19 : IVec S8x128x16384 1) : IVec S8x128x16384 1 :=
  let main_v20 : IVec S8x128x16384 1 := andi main_v5 main_v19
  let main_v21 : IVec S8x128x16384 1 := andi main_v20 main_v15
  let main_v22 : FVec F S8x128x16384 .f32 := (extf .f32 · bitsLt_bf16_f32) main_arg4
  let main_v23 : FVec F S8x128x16384 .f32 := Host.absf main_v22
  let main_cst_3 : FVec F S_ .f32 := constant S_ .f32 0x7F800000#32
  let main_v24 : FVec F S8x128x16384 .f32 := broadcastInDim S8x128x16384 ![] bcast_S_S8x128x16384 main_cst_3
  let main_v25 : IVec S8x128x16384 1 := cmpf .olt main_v23 main_v24
  let main_v26 : IVec S8x128x16384 1 := andi main_v21 main_v25
  main_v26

def fn {F : FTy → Type} [FloatOps F] (main_arg0 : FVec F S8x32 .f32) (main_arg1 : FVec F S8x128x16384 .bf16) (main_arg2 : FVec F S8x16384x128 .bf16) (main_arg3 : FVec F S8x16384x128 .bf16) (main_arg4 : FVec F S8x128x16384 .bf16) (main_arg5 : FVec F S2048x2048 .f32) (main_arg6 : FVec F S2048x8192 .f32) (main_arg7 : FVec F S8192x2048 .f32) : IVec S8x128x16384 1 :=
  let main_v0 : FVec F S8x32 .f32 := Host.absf main_arg0
  let main_cst : FVec F S_ .f32 := constant S_ .f32 0x7F800000#32
  let main_v1 : FVec F S8x32 .f32 := broadcastInDim S8x32 ![] bcast_S_S8x32 main_cst
  let main_v2 : IVec S8x32 1 := cmpf .olt main_v0 main_v1
  let main_v3 : IVec S8x1x32x1 1 := broadcastInDim S8x1x32x1 ![0, 2] bcast_S8x32_S8x1x32x1_0_2 main_v2
  let main_v4 : IVec S8x128x32x512 1 := broadcastInDim S8x128x32x512 ![0, 1, 2, 3] bcast_S8x1x32x1_S8x128x32x512_0_1_2_3 main_v3
  let main_v5 : IVec S8x128x16384 1 := shapeCast S8x128x16384 main_v4 shapeCasts_S8x128x32x512_S8x128x16384
  let main_v6 : FVec F S8x16384x128 .f32 := (extf .f32 · bitsLt_bf16_f32) main_arg2
  let main_v7 : FVec F S8x16384x128 .f32 := Host.absf main_v6
  let main_cst_0 : FVec F S_ .f32 := constant S_ .f32 0x7F800000#32
  let main_v8 : FVec F S8x16384x128 .f32 := broadcastInDim S8x16384x128 ![] bcast_S_S8x16384x128 main_cst_0
  let main_v9 : IVec S8x16384x128 1 := cmpf .olt main_v7 main_v8
  let main_v10 : FVec F S8x16384x128 .f32 := (extf .f32 · bitsLt_bf16_f32) main_arg3
  let main_v11 : FVec F S8x16384x128 .f32 := Host.absf main_v10
  let main_cst_1 : FVec F S_ .f32 := constant S_ .f32 0x7F800000#32
  let main_v12 : FVec F S8x16384x128 .f32 := broadcastInDim S8x16384x128 ![] bcast_S_S8x16384x128 main_cst_1
  let main_v13 : IVec S8x16384x128 1 := cmpf .olt main_v11 main_v12
  let main_v14 : IVec S8x16384x128 1 := andi main_v9 main_v13
  let main_v15 : IVec S8x128x16384 1 := (transpose S8x128x16384 [0, 2, 1] · transposes_S8x16384x128_S8x128x16384_0_2_1) main_v14
  let main_v16 : FVec F S8x128x16384 .f32 := (extf .f32 · bitsLt_bf16_f32) main_arg1
  let main_v17 : FVec F S8x128x16384 .f32 := Host.absf main_v16
  let main_cst_2 : FVec F S_ .f32 := constant S_ .f32 0x7F800000#32
  let main_v18 : FVec F S8x128x16384 .f32 := broadcastInDim S8x128x16384 ![] bcast_S_S8x128x16384 main_cst_2
  let main_v19 : IVec S8x128x16384 1 := cmpf .olt main_v17 main_v18
  fn_part1 (F := F) main_arg4 main_v5 main_v15 main_v19
-- ==== Kernel.lean ====
abbrev S8x32 : Shape := ⟨2, ![8, 32]⟩
abbrev S8x128x16384 : Shape := ⟨3, ![8, 128, 16384]⟩
abbrev S8x16384x128 : Shape := ⟨3, ![8, 16384, 128]⟩
abbrev S2048x2048 : Shape := ⟨2, ![2048, 2048]⟩
abbrev S2048x8192 : Shape := ⟨2, ![2048, 8192]⟩
abbrev S8192x2048 : Shape := ⟨2, ![8192, 2048]⟩
abbrev S16384x1024 : Shape := ⟨2, ![16384, 1024]⟩
abbrev S1x128x2048 : Shape := ⟨3, ![1, 128, 2048]⟩
abbrev S1x16384x128 : Shape := ⟨3, ![1, 16384, 128]⟩
abbrev S1x128x16384 : Shape := ⟨3, ![1, 128, 16384]⟩
abbrev S32x2048 : Shape := ⟨2, ![32, 2048]⟩
abbrev S32x8192 : Shape := ⟨2, ![32, 8192]⟩
abbrev S128x2048 : Shape := ⟨2, ![128, 2048]⟩
abbrev S2048x128 : Shape := ⟨2, ![2048, 128]⟩
abbrev S1x2048 : Shape := ⟨2, ![1, 2048]⟩
abbrev S144x2176 : Shape := ⟨2, ![144, 2176]⟩
abbrev S512x2176 : Shape := ⟨2, ![512, 2176]⟩
abbrev S2x1x2048 : Shape := ⟨3, ![2, 1, 2048]⟩
abbrev S256x2048 : Shape := ⟨2, ![256, 2048]⟩
abbrev S16x512 : Shape := ⟨2, ![16, 512]⟩
abbrev S1x1 : Shape := ⟨2, ![1, 1]⟩
abbrev S1x512x128 : Shape := ⟨3, ![1, 512, 128]⟩
abbrev S512x128 : Shape := ⟨2, ![512, 128]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S256x1536 : Shape := ⟨2, ![256, 1536]⟩
abbrev S512x1536 : Shape := ⟨2, ![512, 1536]⟩
abbrev S1536 : Shape := ⟨1, ![1536]⟩
abbrev S1x1536 : Shape := ⟨2, ![1, 1536]⟩
abbrev S1x1x1536 : Shape := ⟨3, ![1, 1, 1536]⟩
abbrev S1x128x512 : Shape := ⟨3, ![1, 128, 512]⟩
abbrev S128x512 : Shape := ⟨2, ![128, 512]⟩
abbrev S144x512 : Shape := ⟨2, ![144, 512]⟩
abbrev S512x2048 : Shape := ⟨2, ![512, 2048]⟩
abbrev S2048 : Shape := ⟨1, ![2048]⟩
abbrev S1x1x2048 : Shape := ⟨3, ![1, 1, 2048]⟩
abbrev S144x1536 : Shape := ⟨2, ![144, 1536]⟩
abbrev S144x2048 : Shape := ⟨2, ![144, 2048]⟩
abbrev S256x1024 : Shape := ⟨2, ![256, 1024]⟩
abbrev S512x1024 : Shape := ⟨2, ![512, 1024]⟩
abbrev S1024 : Shape := ⟨1, ![1024]⟩
abbrev S1x1024 : Shape := ⟨2, ![1, 1024]⟩
abbrev S1x1x1024 : Shape := ⟨3, ![1, 1, 1024]⟩
abbrev S144x1024 : Shape := ⟨2, ![144, 1024]⟩

abbrev nBuf : Space → Nat
  | .hbm => 12
  | .vmem => 27
  | .smem => 1
  | _ => 0

abbrev bufTy : (tb : Table) → Fin (tcTables nBuf tb) → BufTy
  | .hbm, ⟨0, _⟩ => ⟨S8x32, .f32⟩
  | .hbm, ⟨1, _⟩ => ⟨S8x128x16384, .bf16⟩
  | .hbm, ⟨2, _⟩ => ⟨S8x16384x128, .bf16⟩
  | .hbm, ⟨3, _⟩ => ⟨S8x16384x128, .bf16⟩
  | .hbm, ⟨4, _⟩ => ⟨S8x128x16384, .bf16⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S16384x1024, .bf16⟩
  | .hbm, ⟨9, _⟩ => ⟨S2048x2048, .bf16⟩
  | .hbm, ⟨10, _⟩ => ⟨S2048x8192, .bf16⟩
  | .hbm, ⟨11, _⟩ => ⟨S8192x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x128x16384, .bf16⟩
  | .local _ .vmem, ⟨7, _⟩ => ⟨S1x128x16384, .bf16⟩
  | .local _ .vmem, ⟨8, _⟩ => ⟨S32x2048, .f32⟩
  | .local _ .vmem, ⟨9, _⟩ => ⟨S32x2048, .f32⟩
  | .local _ .vmem, ⟨10, _⟩ => ⟨S32x8192, .f32⟩
  | .local _ .vmem, ⟨11, _⟩ => ⟨S32x8192, .f32⟩
  | .local _ .vmem, ⟨12, _⟩ => ⟨S128x2048, .f32⟩
  | .local _ .vmem, ⟨13, _⟩ => ⟨S128x2048, .f32⟩
  | .local _ .vmem, ⟨14, _⟩ => ⟨S2048x128, .bf16⟩
  | .local _ .vmem, ⟨15, _⟩ => ⟨S2048x128, .bf16⟩
  | .local _ .vmem, ⟨16, _⟩ => ⟨S32x2048, .bf16⟩
  | .local _ .vmem, ⟨17, _⟩ => ⟨S32x2048, .bf16⟩
  | .local _ .vmem, ⟨18, _⟩ => ⟨S32x8192, .bf16⟩
  | .local _ .vmem, ⟨19, _⟩ => ⟨S32x8192, .bf16⟩
  | .local _ .vmem, ⟨20, _⟩ => ⟨S128x2048, .bf16⟩
  | .local _ .vmem, ⟨21, _⟩ => ⟨S128x2048, .bf16⟩
  | .local _ .vmem, ⟨22, _⟩ => ⟨S1x2048, .f32⟩
  | .local _ .vmem, ⟨23, _⟩ => ⟨S144x2176, .f32⟩
  | .local _ .vmem, ⟨24, _⟩ => ⟨S512x2176, .f32⟩
  | .local _ .vmem, ⟨25, _⟩ => ⟨S512x2176, .f32⟩
  | .local _ .vmem, ⟨26, _⟩ => ⟨S2x1x2048, .f32⟩
  | .local _ .smem, ⟨0, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let v21 : Index := Scalar.indexCast arg0
  let c4_i32 : BitVec 32 := 4#32
  let arg1 : BitVec 32 := BitVec.ofNat 32 (i 1).val
  let v9 : BitVec 32 := Scalar.muli c4_i32 arg1
  let v22 : Index := Scalar.indexCast v9
  ![v21.toNat, v22.toNat]
def k0_mult1 (i : grid0.Coords) : BitVec 32 :=
  let c4_i32 : BitVec 32 := 4#32
  let arg1 : BitVec 32 := BitVec.ofNat 32 (i 1).val
  let v9 : BitVec 32 := Scalar.muli c4_i32 arg1
  let c3_i32_22 : BitVec 32 := 3#32
  let v32 : BitVec 32 := Scalar.addi v9 c3_i32_22
  let c512_i32 : BitVec 32 := 512#32
  let v33 : BitVec 32 := Scalar.muli v32 c512_i32
  v33
def k0_off2 (i : grid0.Coords) (c3_i32_22 : BitVec 32) : Fin 3 → Nat :=
  let c0_23 : Index := 0#32
  let c4_i32 : BitVec 32 := 4#32
  let arg1 : BitVec 32 := BitVec.ofNat 32 (i 1).val
  let v9 : BitVec 32 := Scalar.muli c4_i32 arg1
  let v32 : BitVec 32 := Scalar.addi v9 c3_i32_22
  let c512_i32 : BitVec 32 := 512#32
  let v33 : BitVec 32 := Scalar.muli v32 c512_i32
  let v34 : BitVec 32 := v33
  let v35 : Index := Scalar.indexCast v34
  let c0_24 : Index := 0#32
  ![0, v35.toNat, 0]
def k0_mult2 (i : grid0.Coords) : BitVec 32 :=
  let c4_i32 : BitVec 32 := 4#32
  let arg1 : BitVec 32 := BitVec.ofNat 32 (i 1).val
  let v9 : BitVec 32 := Scalar.muli c4_i32 arg1
  let c1_i32 : BitVec 32 := 1#32
  let v57 : BitVec 32 := Scalar.addi v9 c1_i32
  let c512_i32_34 : BitVec 32 := 512#32
  let v58 : BitVec 32 := Scalar.muli v57 c512_i32_34
  v58
def k0_mult3 (i : grid0.Coords) : BitVec 32 :=
  let c4_i32 : BitVec 32 := 4#32
  let arg1 : BitVec 32 := BitVec.ofNat 32 (i 1).val
  let v9 : BitVec 32 := Scalar.muli c4_i32 arg1
  let c3_i32_45 : BitVec 32 := 3#32
  let v82 : BitVec 32 := Scalar.addi v9 c3_i32_45
  let c512_i32_46 : BitVec 32 := 512#32
  let v83 : BitVec 32 := Scalar.muli v82 c512_i32_46
  v83
def k0_off3 (i : grid0.Coords) (c3_i32_45 : BitVec 32) : Fin 2 → Nat :=
  let arg0 : BitVec 32 := BitVec.ofNat 32 (i 0).val
  let v85 : Index := Scalar.indexCast arg0
  let c4_i32 : BitVec 32 := 4#32
  let arg1 : BitVec 32 := BitVec.ofNat 32 (i 1).val
  let v9 : BitVec 32 := Scalar.muli c4_i32 arg1
  let v82 : BitVec 32 := Scalar.addi v9 c3_i32_45
  let v86 : Index := Scalar.indexCast v82
  ![v85.toNat, v86.toNat]
def k0_off4 (i : grid0.Coords) (c3_i32_45 : BitVec 32) : Fin 3 → Nat :=
  let c0_54 : Index := 0#32
  let c0_55 : Index := 0#32
  let c4_i32 : BitVec 32 := 4#32
  let arg1 : BitVec 32 := BitVec.ofNat 32 (i 1).val
  let v9 : BitVec 32 := Scalar.muli c4_i32 arg1
  let v82 : BitVec 32 := Scalar.addi v9 c3_i32_45
  let c512_i32_46 : BitVec 32 := 512#32
  let v83 : BitVec 32 := Scalar.muli v82 c512_i32_46
  let v84 : BitVec 32 := v83
  let v104 : Index := Scalar.indexCast v84
  ![0, 0, v104.toNat]
def k0_mult4 (i : grid0.Coords) : BitVec 32 :=
  let c4_i32 : BitVec 32 := 4#32
  let arg1 : BitVec 32 := BitVec.ofNat 32 (i 1).val
  let v9 : BitVec 32 := Scalar.muli c4_i32 arg1
  let c0_i32 : BitVec 32 := 0#32
  let v119 : BitVec 32 := Scalar.addi v9 c0_i32
  let c512_i32_63 : BitVec 32 := 512#32
  let v120 : BitVec 32 := Scalar.muli v119 c512_i32_63
  v120
def k0_mult5 (i : grid0.Coords) : BitVec 32 :=
  let c4_i32 : BitVec 32 := 4#32
  let arg1 : BitVec 32 := BitVec.ofNat 32 (i 1).val
  let v9 : BitVec 32 := Scalar.muli c4_i32 arg1
  let c1_i32_76 : BitVec 32 := 1#32
  let v143 : BitVec 32 := Scalar.addi v9 c1_i32_76
  let c512_i32_77 : BitVec 32 := 512#32
  let v144 : BitVec 32 := Scalar.muli v143 c512_i32_77
  v144
@[reducible] def k0_t1_loop (i : grid0.Coords) : Scf.Loop 32 :=
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_97 : BitVec 32 := 1#32
  ⟨c0_i32_95, v184, c1_i32_97⟩
def k0_mult6 (i : grid0.Coords) (k0_t1 : Fin (k0_t1_loop i).trips) : BitVec 32 :=
  let c4_i32_153 : BitVec 32 := 4#32
  let c0_i32_95 : BitVec 32 := 0#32
  let c1_i32_97 : BitVec 32 := 1#32
  let arg19 : BitVec 32 := Scf.iv c0_i32_95 c1_i32_97 k0_t1
  let v293 : BitVec 32 := Scalar.muli c4_i32_153 arg19
  let c0_i32_154 : BitVec 32 := 0#32
  let v294 : BitVec 32 := Scalar.addi v293 c0_i32_154
  let c512_i32_155 : BitVec 32 := 512#32
  let v295 : BitVec 32 := Scalar.muli v294 c512_i32_155
  v295
def k0_off5 (i : grid0.Coords) (k0_t1 : Fin (k0_t1_loop i).trips) (c0_i32_154 : BitVec 32) : Fin 3 → Nat :=
  let c0_156 : Index := 0#32
  let c4_i32_153 : BitVec 32 := 4#32
  let c0_i32_95 : BitVec 32 := 0#32
  let c1_i32_97 : BitVec 32 := 1#32
  let arg19 : BitVec 32 := Scf.iv c0_i32_95 c1_i32_97 k0_t1
  let v293 : BitVec 32 := Scalar.muli c4_i32_153 arg19
  let v294 : BitVec 32 := Scalar.addi v293 c0_i32_154
  let c512_i32_155 : BitVec 32 := 512#32
  let v295 : BitVec 32 := Scalar.muli v294 c512_i32_155
  let v296 : BitVec 32 := v295
  let v297 : Index := Scalar.indexCast v296
  let c0_157 : Index := 0#32
  ![0, v297.toNat, 0]
def k0_mult7 (i : grid0.Coords) (k0_t1 : Fin (k0_t1_loop i).trips) : BitVec 32 :=
  let c0_i32_95 : BitVec 32 := 0#32
  let c1_i32_97 : BitVec 32 := 1#32
  let arg19 : BitVec 32 := Scf.iv c0_i32_95 c1_i32_97 k0_t1
  let c0_i32_167 : BitVec 32 := 0#32
  let v313 : BitVec 1 := Scalar.cmpi .eq arg19 c0_i32_167
  let c4_i32 : BitVec 32 := 4#32
  let arg1 : BitVec 32 := BitVec.ofNat 32 (i 1).val
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let c512_i32_169 : BitVec 32 := 512#32
  let v316 : BitVec 32 := Scalar.muli v315 c512_i32_169
  v316
def k0_off6 (i : grid0.Coords) (k0_t1 : Fin (k0_t1_loop i).trips) : Fin 2 → Nat :=
  let arg0 : BitVec 32 := BitVec.ofNat 32 (i 0).val
  let v318 : Index := Scalar.indexCast arg0
  let c0_i32_95 : BitVec 32 := 0#32
  let c1_i32_97 : BitVec 32 := 1#32
  let arg19 : BitVec 32 := Scf.iv c0_i32_95 c1_i32_97 k0_t1
  let c0_i32_167 : BitVec 32 := 0#32
  let v313 : BitVec 1 := Scalar.cmpi .eq arg19 c0_i32_167
  let c4_i32 : BitVec 32 := 4#32
  let arg1 : BitVec 32 := BitVec.ofNat 32 (i 1).val
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let v319 : Index := Scalar.indexCast v315
  ![v318.toNat, v319.toNat]
def k0_off7 (i : grid0.Coords) (k0_t1 : Fin (k0_t1_loop i).trips) : Fin 3 → Nat :=
  let c0_177 : Index := 0#32
  let c0_178 : Index := 0#32
  let c0_i32_95 : BitVec 32 := 0#32
  let c1_i32_97 : BitVec 32 := 1#32
  let arg19 : BitVec 32 := Scf.iv c0_i32_95 c1_i32_97 k0_t1
  let c0_i32_167 : BitVec 32 := 0#32
  let v313 : BitVec 1 := Scalar.cmpi .eq arg19 c0_i32_167
  let c4_i32 : BitVec 32 := 4#32
  let arg1 : BitVec 32 := BitVec.ofNat 32 (i 1).val
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let c512_i32_169 : BitVec 32 := 512#32
  let v316 : BitVec 32 := Scalar.muli v315 c512_i32_169
  let v317 : BitVec 32 := v316
  let v337 : Index := Scalar.indexCast v317
  ![0, 0, v337.toNat]
def k0_mult8 (i : grid0.Coords) (k0_t1 : Fin (k0_t1_loop i).trips) : BitVec 32 :=
  let c4_i32_186 : BitVec 32 := 4#32
  let c0_i32_95 : BitVec 32 := 0#32
  let c1_i32_97 : BitVec 32 := 1#32
  let arg19 : BitVec 32 := Scf.iv c0_i32_95 c1_i32_97 k0_t1
  let v352 : BitVec 32 := Scalar.muli c4_i32_186 arg19
  let c1_i32_187 : BitVec 32 := 1#32
  let v353 : BitVec 32 := Scalar.addi v352 c1_i32_187
  let c512_i32_188 : BitVec 32 := 512#32
  let v354 : BitVec 32 := Scalar.muli v353 c512_i32_188
  v354
def k0_mult9 (i : grid0.Coords) (k0_t1 : Fin (k0_t1_loop i).trips) : BitVec 32 :=
  let c4_i32_186 : BitVec 32 := 4#32
  let c0_i32_95 : BitVec 32 := 0#32
  let c1_i32_97 : BitVec 32 := 1#32
  let arg19 : BitVec 32 := Scf.iv c0_i32_95 c1_i32_97 k0_t1
  let v352 : BitVec 32 := Scalar.muli c4_i32_186 arg19
  let c1_i32_187 : BitVec 32 := 1#32
  let v353 : BitVec 32 := Scalar.addi v352 c1_i32_187
  let c1_i32_200 : BitVec 32 := 1#32
  let v372 : BitVec 32 := Scalar.subi v353 c1_i32_200
  let c512_i32_201 : BitVec 32 := 512#32
  let v373 : BitVec 32 := Scalar.muli v372 c512_i32_201
  v373
def k0_off8 (i : grid0.Coords) (k0_t1 : Fin (k0_t1_loop i).trips) (c1_i32_187 : BitVec 32) : Fin 2 → Nat :=
  let arg0 : BitVec 32 := BitVec.ofNat 32 (i 0).val
  let v375 : Index := Scalar.indexCast arg0
  let c4_i32_186 : BitVec 32 := 4#32
  let c0_i32_95 : BitVec 32 := 0#32
  let c1_i32_97 : BitVec 32 := 1#32
  let arg19 : BitVec 32 := Scf.iv c0_i32_95 c1_i32_97 k0_t1
  let v352 : BitVec 32 := Scalar.muli c4_i32_186 arg19
  let v353 : BitVec 32 := Scalar.addi v352 c1_i32_187
  let c1_i32_200 : BitVec 32 := 1#32
  let v372 : BitVec 32 := Scalar.subi v353 c1_i32_200
  let v376 : Index := Scalar.indexCast v372
  ![v375.toNat, v376.toNat]
def k0_off9 (i : grid0.Coords) (k0_t1 : Fin (k0_t1_loop i).trips) (c1_i32_187 : BitVec 32) : Fin 3 → Nat :=
  let c0_209 : Index := 0#32
  let c0_210 : Index := 0#32
  let c4_i32_186 : BitVec 32 := 4#32
  let c0_i32_95 : BitVec 32 := 0#32
  let c1_i32_97 : BitVec 32 := 1#32
  let arg19 : BitVec 32 := Scf.iv c0_i32_95 c1_i32_97 k0_t1
  let v352 : BitVec 32 := Scalar.muli c4_i32_186 arg19
  let v353 : BitVec 32 := Scalar.addi v352 c1_i32_187
  let c1_i32_200 : BitVec 32 := 1#32
  let v372 : BitVec 32 := Scalar.subi v353 c1_i32_200
  let c512_i32_201 : BitVec 32 := 512#32
  let v373 : BitVec 32 := Scalar.muli v372 c512_i32_201
  let v374 : BitVec 32 := v373
  let v394 : Index := Scalar.indexCast v374
  ![0, 0, v394.toNat]
def k0_mult10 (i : grid0.Coords) (k0_t1 : Fin (k0_t1_loop i).trips) : BitVec 32 :=
  let c4_i32_218 : BitVec 32 := 4#32
  let c0_i32_95 : BitVec 32 := 0#32
  let c1_i32_97 : BitVec 32 := 1#32
  let arg19 : BitVec 32 := Scf.iv c0_i32_95 c1_i32_97 k0_t1
  let v409 : BitVec 32 := Scalar.muli c4_i32_218 arg19
  let c2_i32_219 : BitVec 32 := 2#32
  let v410 : BitVec 32 := Scalar.addi v409 c2_i32_219
  let c512_i32_220 : BitVec 32 := 512#32
  let v411 : BitVec 32 := Scalar.muli v410 c512_i32_220
  v411
def k0_mult11 (i : grid0.Coords) (k0_t1 : Fin (k0_t1_loop i).trips) : BitVec 32 :=
  let c4_i32_218 : BitVec 32 := 4#32
  let c0_i32_95 : BitVec 32 := 0#32
  let c1_i32_97 : BitVec 32 := 1#32
  let arg19 : BitVec 32 := Scf.iv c0_i32_95 c1_i32_97 k0_t1
  let v409 : BitVec 32 := Scalar.muli c4_i32_218 arg19
  let c2_i32_219 : BitVec 32 := 2#32
  let v410 : BitVec 32 := Scalar.addi v409 c2_i32_219
  let c1_i32_232 : BitVec 32 := 1#32
  let v429 : BitVec 32 := Scalar.subi v410 c1_i32_232
  let c512_i32_233 : BitVec 32 := 512#32
  let v430 : BitVec 32 := Scalar.muli v429 c512_i32_233
  v430
def k0_mult12 (i : grid0.Coords) (k0_t1 : Fin (k0_t1_loop i).trips) : BitVec 32 :=
  let c4_i32_250 : BitVec 32 := 4#32
  let c0_i32_95 : BitVec 32 := 0#32
  let c1_i32_97 : BitVec 32 := 1#32
  let arg19 : BitVec 32 := Scf.iv c0_i32_95 c1_i32_97 k0_t1
  let v466 : BitVec 32 := Scalar.muli c4_i32_250 arg19
  let c3_i32_251 : BitVec 32 := 3#32
  let v467 : BitVec 32 := Scalar.addi v466 c3_i32_251
  let c512_i32_252 : BitVec 32 := 512#32
  let v468 : BitVec 32 := Scalar.muli v467 c512_i32_252
  v468
def k0_mult13 (i : grid0.Coords) (k0_t1 : Fin (k0_t1_loop i).trips) : BitVec 32 :=
  let c4_i32_250 : BitVec 32 := 4#32
  let c0_i32_95 : BitVec 32 := 0#32
  let c1_i32_97 : BitVec 32 := 1#32
  let arg19 : BitVec 32 := Scf.iv c0_i32_95 c1_i32_97 k0_t1
  let v466 : BitVec 32 := Scalar.muli c4_i32_250 arg19
  let c3_i32_251 : BitVec 32 := 3#32
  let v467 : BitVec 32 := Scalar.addi v466 c3_i32_251
  let c1_i32_264 : BitVec 32 := 1#32
  let v486 : BitVec 32 := Scalar.subi v467 c1_i32_264
  let c512_i32_265 : BitVec 32 := 512#32
  let v487 : BitVec 32 := Scalar.muli v486 c512_i32_265
  v487
@[reducible] def k0_t2_loop (i : grid0.Coords) : Scf.Loop 32 :=
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let v181 : BitVec 32 := Scalar.addi c0_i32_95 v180
  let c1_i32_98 : BitVec 32 := 1#32
  ⟨v184, v181, c1_i32_98⟩
def k0_mult14 (i : grid0.Coords) (k0_t2 : Fin (k0_t2_loop i).trips) : BitVec 32 :=
  let c4_i32_153 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v293 : BitVec 32 := Scalar.muli c4_i32_153 arg19
  let c0_i32_154 : BitVec 32 := 0#32
  let v294 : BitVec 32 := Scalar.addi v293 c0_i32_154
  let c512_i32_155 : BitVec 32 := 512#32
  let v295 : BitVec 32 := Scalar.muli v294 c512_i32_155
  v295
def k0_off10 (i : grid0.Coords) (k0_t2 : Fin (k0_t2_loop i).trips) (c0_i32_154 : BitVec 32) : Fin 3 → Nat :=
  let c0_156 : Index := 0#32
  let c4_i32_153 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v293 : BitVec 32 := Scalar.muli c4_i32_153 arg19
  let v294 : BitVec 32 := Scalar.addi v293 c0_i32_154
  let c512_i32_155 : BitVec 32 := 512#32
  let v295 : BitVec 32 := Scalar.muli v294 c512_i32_155
  let v296 : BitVec 32 := v295
  let v297 : Index := Scalar.indexCast v296
  let c0_157 : Index := 0#32
  ![0, v297.toNat, 0]
def k0_mult15 (i : grid0.Coords) (k0_t2 : Fin (k0_t2_loop i).trips) : BitVec 32 :=
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let c0_i32_167 : BitVec 32 := 0#32
  let v313 : BitVec 1 := Scalar.cmpi .eq arg19 c0_i32_167
  let c4_i32 : BitVec 32 := 4#32
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let c512_i32_169 : BitVec 32 := 512#32
  let v316 : BitVec 32 := Scalar.muli v315 c512_i32_169
  v316
def k0_off11 (i : grid0.Coords) (k0_t2 : Fin (k0_t2_loop i).trips) : Fin 2 → Nat :=
  let arg0 : BitVec 32 := BitVec.ofNat 32 (i 0).val
  let v318 : Index := Scalar.indexCast arg0
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let c0_i32_167 : BitVec 32 := 0#32
  let v313 : BitVec 1 := Scalar.cmpi .eq arg19 c0_i32_167
  let c4_i32 : BitVec 32 := 4#32
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let v319 : Index := Scalar.indexCast v315
  ![v318.toNat, v319.toNat]
def k0_off12 (i : grid0.Coords) (k0_t2 : Fin (k0_t2_loop i).trips) : Fin 3 → Nat :=
  let c0_177 : Index := 0#32
  let c0_178 : Index := 0#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let c0_i32_167 : BitVec 32 := 0#32
  let v313 : BitVec 1 := Scalar.cmpi .eq arg19 c0_i32_167
  let c4_i32 : BitVec 32 := 4#32
  let v9 : BitVec 32 := Scalar.muli c4_i32 arg1
  let c4_i32_153 : BitVec 32 := 4#32
  let v293 : BitVec 32 := Scalar.muli c4_i32_153 arg19
  let c0_i32_154 : BitVec 32 := 0#32
  let v294 : BitVec 32 := Scalar.addi v293 c0_i32_154
  let c1_i32_168 : BitVec 32 := 1#32
  let v314 : BitVec 32 := Scalar.subi v294 c1_i32_168
  let v315 : BitVec 32 := Scalar.select v313 v9 v314
  let c512_i32_169 : BitVec 32 := 512#32
  let v316 : BitVec 32 := Scalar.muli v315 c512_i32_169
  let v317 : BitVec 32 := v316
  let v337 : Index := Scalar.indexCast v317
  ![0, 0, v337.toNat]
def k0_mult16 (i : grid0.Coords) (k0_t2 : Fin (k0_t2_loop i).trips) : BitVec 32 :=
  let c4_i32_186 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v352 : BitVec 32 := Scalar.muli c4_i32_186 arg19
  let c1_i32_187 : BitVec 32 := 1#32
  let v353 : BitVec 32 := Scalar.addi v352 c1_i32_187
  let c512_i32_188 : BitVec 32 := 512#32
  let v354 : BitVec 32 := Scalar.muli v353 c512_i32_188
  v354
def k0_mult17 (i : grid0.Coords) (k0_t2 : Fin (k0_t2_loop i).trips) : BitVec 32 :=
  let c4_i32_186 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v352 : BitVec 32 := Scalar.muli c4_i32_186 arg19
  let c1_i32_187 : BitVec 32 := 1#32
  let v353 : BitVec 32 := Scalar.addi v352 c1_i32_187
  let c1_i32_200 : BitVec 32 := 1#32
  let v372 : BitVec 32 := Scalar.subi v353 c1_i32_200
  let c512_i32_201 : BitVec 32 := 512#32
  let v373 : BitVec 32 := Scalar.muli v372 c512_i32_201
  v373
def k0_off13 (i : grid0.Coords) (k0_t2 : Fin (k0_t2_loop i).trips) (c1_i32_187 : BitVec 32) : Fin 2 → Nat :=
  let arg0 : BitVec 32 := BitVec.ofNat 32 (i 0).val
  let v375 : Index := Scalar.indexCast arg0
  let c4_i32_186 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v352 : BitVec 32 := Scalar.muli c4_i32_186 arg19
  let v353 : BitVec 32 := Scalar.addi v352 c1_i32_187
  let c1_i32_200 : BitVec 32 := 1#32
  let v372 : BitVec 32 := Scalar.subi v353 c1_i32_200
  let v376 : Index := Scalar.indexCast v372
  ![v375.toNat, v376.toNat]
def k0_off14 (i : grid0.Coords) (k0_t2 : Fin (k0_t2_loop i).trips) (c1_i32_187 : BitVec 32) : Fin 3 → Nat :=
  let c0_209 : Index := 0#32
  let c0_210 : Index := 0#32
  let c4_i32_186 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v352 : BitVec 32 := Scalar.muli c4_i32_186 arg19
  let v353 : BitVec 32 := Scalar.addi v352 c1_i32_187
  let c1_i32_200 : BitVec 32 := 1#32
  let v372 : BitVec 32 := Scalar.subi v353 c1_i32_200
  let c512_i32_201 : BitVec 32 := 512#32
  let v373 : BitVec 32 := Scalar.muli v372 c512_i32_201
  let v374 : BitVec 32 := v373
  let v394 : Index := Scalar.indexCast v374
  ![0, 0, v394.toNat]
def k0_mult18 (i : grid0.Coords) (k0_t2 : Fin (k0_t2_loop i).trips) : BitVec 32 :=
  let c4_i32_218 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v409 : BitVec 32 := Scalar.muli c4_i32_218 arg19
  let c2_i32_219 : BitVec 32 := 2#32
  let v410 : BitVec 32 := Scalar.addi v409 c2_i32_219
  let c512_i32_220 : BitVec 32 := 512#32
  let v411 : BitVec 32 := Scalar.muli v410 c512_i32_220
  v411
def k0_mult19 (i : grid0.Coords) (k0_t2 : Fin (k0_t2_loop i).trips) : BitVec 32 :=
  let c4_i32_218 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v409 : BitVec 32 := Scalar.muli c4_i32_218 arg19
  let c2_i32_219 : BitVec 32 := 2#32
  let v410 : BitVec 32 := Scalar.addi v409 c2_i32_219
  let c1_i32_232 : BitVec 32 := 1#32
  let v429 : BitVec 32 := Scalar.subi v410 c1_i32_232
  let c512_i32_233 : BitVec 32 := 512#32
  let v430 : BitVec 32 := Scalar.muli v429 c512_i32_233
  v430
def k0_mult20 (i : grid0.Coords) (k0_t2 : Fin (k0_t2_loop i).trips) : BitVec 32 :=
  let c4_i32_250 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v466 : BitVec 32 := Scalar.muli c4_i32_250 arg19
  let c3_i32_251 : BitVec 32 := 3#32
  let v467 : BitVec 32 := Scalar.addi v466 c3_i32_251
  let c512_i32_252 : BitVec 32 := 512#32
  let v468 : BitVec 32 := Scalar.muli v467 c512_i32_252
  v468
def k0_mult21 (i : grid0.Coords) (k0_t2 : Fin (k0_t2_loop i).trips) : BitVec 32 :=
  let c4_i32_250 : BitVec 32 := 4#32
  let c0_i32_95 : BitVec 32 := 0#32
  let arg1 : BitVec 32 := BitVec.ofNat 32 (i 1).val
  let v180 : BitVec 32 := Scalar.subi arg1 c0_i32_95
  let c1_i32_96 : BitVec 32 := 1#32
  let v182 : BitVec 32 := Scalar.divsi v180 c1_i32_96
  let v183 : BitVec 32 := Scalar.muli v182 c1_i32_96
  let v184 : BitVec 32 := Scalar.addi c0_i32_95 v183
  let c1_i32_98 : BitVec 32 := 1#32
  let arg19 : BitVec 32 := Scf.iv v184 c1_i32_98 k0_t2
  let v466 : BitVec 32 := Scalar.muli c4_i32_250 arg19
  let c3_i32_251 : BitVec 32 := 3#32
  let v467 : BitVec 32 := Scalar.addi v466 c3_i32_251
  let c1_i32_264 : BitVec 32 := 1#32
  let v486 : BitVec 32 := Scalar.subi v467 c1_i32_264
  let c512_i32_265 : BitVec 32 := 512#32
  let v487 : BitVec 32 := Scalar.muli v486 c512_i32_265
  v487
def k0_mult22 (i : grid0.Coords) : BitVec 32 :=
  let c4_i32 : BitVec 32 := 4#32
  let arg1 : BitVec 32 := BitVec.ofNat 32 (i 1).val
  let v9 : BitVec 32 := Scalar.muli c4_i32 arg1
  let c2_i32 : BitVec 32 := 2#32
  let v188 : BitVec 32 := Scalar.addi v9 c2_i32
  let c512_i32_101 : BitVec 32 := 512#32
  let v189 : BitVec 32 := Scalar.muli v188 c512_i32_101
  v189
def k0_mult23 (i : grid0.Coords) : BitVec 32 :=
  let arg1 : BitVec 32 := BitVec.ofNat 32 (i 1).val
  let c0_i32_99 : BitVec 32 := 0#32
  let v185 : BitVec 1 := Scalar.cmpi .eq arg1 c0_i32_99
  let c4_i32 : BitVec 32 := 4#32
  let v9 : BitVec 32 := Scalar.muli c4_i32 arg1
  let c1_i32_100 : BitVec 32 := 1#32
  let v186 : BitVec 32 := Scalar.subi v9 c1_i32_100
  let v187 : BitVec 32 := Scalar.select v185 v9 v186
  let c512_i32_113 : BitVec 32 := 512#32
  let v213 : BitVec 32 := Scalar.muli v187 c512_i32_113
  v213
def k0_off15 (i : grid0.Coords) : Fin 2 → Nat :=
  let arg0 : BitVec 32 := BitVec.ofNat 32 (i 0).val
  let v215 : Index := Scalar.indexCast arg0
  let arg1 : BitVec 32 := BitVec.ofNat 32 (i 1).val
  let c0_i32_99 : BitVec 32 := 0#32
  let v185 : BitVec 1 := Scalar.cmpi .eq arg1 c0_i32_99
  let c4_i32 : BitVec 32 := 4#32
  let v9 : BitVec 32 := Scalar.muli c4_i32 arg1
  let c1_i32_100 : BitVec 32 := 1#32
  let v186 : BitVec 32 := Scalar.subi v9 c1_i32_100
  let v187 : BitVec 32 := Scalar.select v185 v9 v186
  let v216 : Index := Scalar.indexCast v187
  ![v215.toNat, v216.toNat]
def k0_off16 (i : grid0.Coords) : Fin 3 → Nat :=
  let c0_121 : Index := 0#32
  let c0_122 : Index := 0#32
  let arg1 : BitVec 32 := BitVec.ofNat 32 (i 1).val
  let c0_i32_99 : BitVec 32 := 0#32
  let v185 : BitVec 1 := Scalar.cmpi .eq arg1 c0_i32_99
  let c4_i32 : BitVec 32 := 4#32
  let v9 : BitVec 32 := Scalar.muli c4_i32 arg1
  let c1_i32_100 : BitVec 32 := 1#32
  let v186 : BitVec 32 := Scalar.subi v9 c1_i32_100
  let v187 : BitVec 32 := Scalar.select v185 v9 v186
  let c512_i32_113 : BitVec 32 := 512#32
  let v213 : BitVec 32 := Scalar.muli v187 c512_i32_113
  let v214 : BitVec 32 := v213
  let v234 : Index := Scalar.indexCast v214
  ![0, 0, v234.toNat]
def k0_mult24 (i : grid0.Coords) : BitVec 32 :=
  let c4_i32 : BitVec 32 := 4#32
  let arg1 : BitVec 32 := BitVec.ofNat 32 (i 1).val
  let v9 : BitVec 32 := Scalar.muli c4_i32 arg1
  let c2_i32_130 : BitVec 32 := 2#32
  let v249 : BitVec 32 := Scalar.addi v9 c2_i32_130
  let c512_i32_131 : BitVec 32 := 512#32
  let v250 : BitVec 32 := Scalar.muli v249 c512_i32_131
  v250
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x32 : Shape := ⟨2, ![8, 32]⟩
abbrev S8x128x16384 : Shape := ⟨3, ![8, 128, 16384]⟩
abbrev S8x16384x128 : Shape := ⟨3, ![8, 16384, 128]⟩
abbrev S2048x2048 : Shape := ⟨2, ![2048, 2048]⟩
abbrev S2048x8192 : Shape := ⟨2, ![2048, 8192]⟩
abbrev S8192x2048 : Shape := ⟨2, ![8192, 2048]⟩
abbrev S8x32x1 : Shape := ⟨3, ![8, 32, 1]⟩
abbrev S8x32x512 : Shape := ⟨3, ![8, 32, 512]⟩
abbrev S8x16384 : Shape := ⟨2, ![8, 16384]⟩
abbrev S8x16384x3 : Shape := ⟨3, ![8, 16384, 3]⟩
abbrev S_ : Shape := ⟨0, ![]⟩
abbrev S8x16384x16384 : Shape := ⟨3, ![8, 16384, 16384]⟩
abbrev S8x1x16384 : Shape := ⟨3, ![8, 1, 16384]⟩
abbrev S8x16384x1 : Shape := ⟨3, ![8, 16384, 1]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x8x128 : Shape := ⟨3, ![16384, 8, 128]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x32, .f32⟩
  | .hbm, ⟨1, _⟩ => ⟨S8x128x16384, .bf16⟩
  | .hbm, ⟨2, _⟩ => ⟨S8x16384x128, .bf16⟩
  | .hbm, ⟨3, _⟩ => ⟨S8x16384x128, .bf16⟩
  | .hbm, ⟨4, _⟩ => ⟨S8x128x16384, .bf16⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S8x128x16384, .f32⟩
  | .hbm, ⟨9, _⟩ => ⟨S8x16384x128, .f32⟩
  | .hbm, ⟨10, _⟩ => ⟨S8x128x16384, .f32⟩
  | .hbm, ⟨11, _⟩ => ⟨S8x32x1, .f32⟩
  | .hbm, ⟨12, _⟩ => ⟨S8x32x512, .f32⟩
  | .hbm, ⟨13, _⟩ => ⟨S8x16384, .f32⟩
  | .hbm, ⟨14, _⟩ => ⟨S8x16384x3, .bf16⟩
  | .hbm, ⟨15, _⟩ => ⟨S8x16384x3, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S8x16384x16384, .f32⟩
  | .hbm, ⟨20, _⟩ => ⟨S8x1x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S16384, .i32⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S8x16384x16384, .f32⟩
  | .hbm, ⟨32, _⟩ => ⟨S_, .f32⟩
  | .hbm, ⟨33, _⟩ => ⟨S_, .f32⟩
  | .hbm, ⟨34, _⟩ => ⟨S8x16384x16384, .i1⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384x16384, .f32⟩
  | .hbm, ⟨39, _⟩ => ⟨S_, .f32⟩
  | .hbm, ⟨40, _⟩ => ⟨S8x16384, .f32⟩
  | .hbm, ⟨41, _⟩ => ⟨S8x16384x1, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x128x16384, .f32⟩
  | .hbm, ⟨51, _⟩ => ⟨S16384x8x128, .f32⟩
  | .hbm, ⟨52, _⟩ => ⟨S16384x1024, .f32⟩
  | .hbm, ⟨53, _⟩ => ⟨S16384x1024, .bf16⟩
  | .hbm, ⟨54, _⟩ => ⟨S2048x2048, .bf16⟩
  | .hbm, ⟨55, _⟩ => ⟨S2048x8192, .bf16⟩
  | .hbm, ⟨56, _⟩ => ⟨S8192x2048, .bf16⟩
  | _, _ => ⟨S8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Ffn.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S_ : Shape := ⟨0, ![]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S8192x2048, .bf16⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c512_i32 : BitVec 32 := 512#32
  let v9 : BitVec 32 := Scalar.muli arg0 c512_i32
  v9
def k0_off1 (i : grid0.Coords) : Fin 2 → Nat :=
  let arg0 : BitVec 32 := BitVec.ofNat 32 (i 0).val
  let c512_i32 : BitVec 32 := 512#32
  let v9 : BitVec 32 := Scalar.muli arg0 c512_i32
  let v10 : BitVec 32 := v9
  let c0_i32_4 : BitVec 32 := 0#32
  ![v10.toNat, 0]
def k0_cond3 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_3 : BitVec 32 := 0#32
  let v8 : BitVec 1 := Scalar.cmpi .ne v7 c0_i32_3
  v8

def k0_mult2 (i : grid0.Coords) : BitVec 32 :=
  let arg0 : BitVec 32 := BitVec.ofNat 32 (i 0).val
  let c512_i32 : BitVec 32 := 512#32
  let v9 : BitVec 32 := Scalar.muli arg0 c512_i32
  v9
def k0_off2 (i : grid0.Coords) : Fin 2 → Nat :=
  let arg0 : BitVec 32 := BitVec.ofNat 32 (i 0).val
  let c512_i32 : BitVec 32 := 512#32
  let v9 : BitVec 32 := Scalar.muli arg0 c512_i32
  let v10 : BitVec 32 := v9
  let c0_i32_4 : BitVec 32 := 0#32
  ![v10.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S8192x2048, .bf16⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S2048x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S8192x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Outp.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x1024, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutpReferenceIdeal.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x1024, .f32⟩
  | .hbm, ⟨4, _⟩ => ⟨S2048x2048, .bf16⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S2048x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Inp.lean ====
abbrev S16384x2048 : Shape := ⟨2, ![16384, 2048]⟩
abbrev S1x2048 : Shape := ⟨2, ![1, 2048]⟩
abbrev S5120x2048 : Shape := ⟨2, ![5120, 2048]⟩
abbrev S128x2048 : Shape := ⟨2, ![128, 2048]⟩
abbrev S4x1024 : Shape := ⟨2, ![4, 1024]⟩
abbrev S1x1024 : Shape := ⟨2, ![1, 1024]⟩
abbrev S4x256x512 : Shape := ⟨3, ![4, 256, 512]⟩
abbrev S16384x1024 : Shape := ⟨2, ![16384, 1024]⟩
abbrev S8x128x16384 : Shape := ⟨3, ![8, 128, 16384]⟩
abbrev S8x16384x128 : Shape := ⟨3, ![8, 16384, 128]⟩
abbrev S16384x128 : Shape := ⟨2, ![16384, 128]⟩
abbrev S512x2048 : Shape := ⟨2, ![512, 2048]⟩
abbrev S2048x2048 : Shape := ⟨2, ![2048, 2048]⟩
abbrev S1024x2048 : Shape := ⟨2, ![1024, 2048]⟩
abbrev S512x1024 : Shape := ⟨2, ![512, 1024]⟩
abbrev S8x128x512 : Shape := ⟨3, ![8, 128, 512]⟩
abbrev S8x512x128 : Shape := ⟨3, ![8, 512, 128]⟩
abbrev S512x128 : Shape := ⟨2, ![512, 128]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S128x512 : Shape := ⟨2, ![128, 512]⟩
abbrev S1x128x512 : Shape := ⟨3, ![1, 128, 512]⟩
abbrev S1x512x128 : Shape := ⟨3, ![1, 512, 128]⟩

abbrev nBuf : Space → Nat
  | .hbm => 19
  | .vmem => 31
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S5120x2048, .bf16⟩
  | .hbm, ⟨5, _⟩ => ⟨S128x2048, .bf16⟩
  | .hbm, ⟨6, _⟩ => ⟨S4x1024, .f32⟩
  | .hbm, ⟨7, _⟩ => ⟨S1x1024, .f32⟩
  | .hbm, ⟨8, _⟩ => ⟨S4x256x512, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S8x128x16384, .bf16⟩
  | .hbm, ⟨16, _⟩ => ⟨S8x16384x128, .bf16⟩
  | .hbm, ⟨17, _⟩ => ⟨S8x128x16384, .bf16⟩
  | .hbm, ⟨18, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S128x2048, .bf16⟩
  | .local _ .vmem, ⟨10, _⟩ => ⟨S4x1024, .f32⟩
  | .local _ .vmem, ⟨11, _⟩ => ⟨S1x1024, .f32⟩
  | .local _ .vmem, ⟨12, _⟩ => ⟨S4x256x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S8x128x512, .bf16⟩
  | .local _ .vmem, ⟨23, _⟩ => ⟨S8x128x512, .bf16⟩
  | .local _ .vmem, ⟨24, _⟩ => ⟨S8x512x128, .bf16⟩
  | .local _ .vmem, ⟨25, _⟩ => ⟨S8x512x128, .bf16⟩
  | .local _ .vmem, ⟨26, _⟩ => ⟨S8x128x512, .bf16⟩
  | .local _ .vmem, ⟨27, _⟩ => ⟨S8x128x512, .bf16⟩
  | .local _ .vmem, ⟨28, _⟩ => ⟨S512x128, .f32⟩
  | .local _ .vmem, ⟨29, _⟩ => ⟨S512x128, .f32⟩
  | .local _ .vmem, ⟨30, _⟩ => ⟨S520x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_7 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InpReferenceIdeal.lean ====
abbrev S16384x2048 : Shape := ⟨2, ![16384, 2048]⟩
abbrev S1x2048 : Shape := ⟨2, ![1, 2048]⟩
abbrev S5120x2048 : Shape := ⟨2, ![5120, 2048]⟩
abbrev S128x2048 : Shape := ⟨2, ![128, 2048]⟩
abbrev S4x1024 : Shape := ⟨2, ![4, 1024]⟩
abbrev S1x1024 : Shape := ⟨2, ![1, 1024]⟩
abbrev S4x256x512 : Shape := ⟨3, ![4, 256, 512]⟩
abbrev S_ : Shape := ⟨0, ![]⟩
abbrev S16384 : Shape := ⟨1, ![16384]⟩
abbrev S16384x1 : Shape := ⟨2, ![16384, 1]⟩
abbrev S2048x5120 : Shape := ⟨2, ![2048, 5120]⟩
abbrev S16384x5120 : Shape := ⟨2, ![16384, 5120]⟩
abbrev S16384x1024 : Shape := ⟨2, ![16384, 1024]⟩
abbrev S16384x8x128 : Shape := ⟨3, ![16384, 8, 128]⟩
abbrev S2048x128 : Shape := ⟨2, ![2048, 128]⟩
abbrev S16384x128 : Shape := ⟨2, ![16384, 128]⟩
abbrev S8x128x16384 : Shape := ⟨3, ![8, 128, 16384]⟩
abbrev S8x16384x128 : Shape := ⟨3, ![8, 16384, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S5120x2048, .bf16⟩
  | .hbm, ⟨5, _⟩ => ⟨S128x2048, .bf16⟩
  | .hbm, ⟨6, _⟩ => ⟨S4x1024, .f32⟩
  | .hbm, ⟨7, _⟩ => ⟨S1x1024, .f32⟩
  | .hbm, ⟨8, _⟩ => ⟨S4x256x512, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S5120x2048, .f32⟩
  | .hbm, ⟨35, _⟩ => ⟨S2048x5120, .f32⟩
  | .hbm, ⟨36, _⟩ => ⟨S16384x5120, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x8x128, .f32⟩
  | .hbm, ⟨45, _⟩ => ⟨S16384x8x128, .f32⟩
  | .hbm, ⟨46, _⟩ => ⟨S16384x8x128, .f32⟩
  | .hbm, ⟨47, _⟩ => ⟨S128x2048, .f32⟩
  | .hbm, ⟨48, _⟩ => ⟨S2048x128, .f32⟩
  | .hbm, ⟨49, _⟩ => ⟨S16384x128, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | .hbm, ⟨68, _⟩ => ⟨S8x128x16384, .f32⟩
  | .hbm, ⟨69, _⟩ => ⟨S8x128x16384, .bf16⟩
  | .hbm, ⟨70, _⟩ => ⟨S8x16384x128, .f32⟩
  | .hbm, ⟨71, _⟩ => ⟨S8x16384x128, .bf16⟩
  | .hbm, ⟨72, _⟩ => ⟨S8x128x16384, .f32⟩
  | .hbm, ⟨73, _⟩ => ⟨S8x128x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.AttIdeal.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

open Idealize.ShloMosaic.VecWindow (put window)

/-! ## The state of the online softmax, as values

Between two blocks of keys the kernel holds, for the 2048 queries of the tile, the running maximum, the accumulator (the
value rows and the denominator's row), and one block of scores with its column maxima that is still to be folded in. -/

theorem pos11 : 0 < S1x1.numel := by decide

/-- What the loop carries from one trip to the next. -/
structure St (F : FTy → Type) where
  /-- the running maximum of each query -/
  M : Vec F S1x2048 .f32
  /-- the accumulator: rows 0–127 the weighted values, row 128 the denominator -/
  A : Vec F S144x2048 .f32
  /-- the scores of the block still to be folded in -/
  S : Vec F S512x2048 .f32
  /-- the column maxima of those scores -/
  C : Vec F S1x1x2048 .f32

/-- One step: the pending block (its bias word `rk`, its values `vt`) is folded in, and the scores of the next block
    (keys `kx`, gate pieces `gx`) become the pending ones. -/
def one (v19 : FVec F S256x2048 .bf16) (v20 : FVec F S16x512 .bf16) (v23 rk : Elt F .f32) (vt : Vec F S1x128x512 .bf16)
    (kx gx : Vec F S1x512x128 .bf16) (s : St F) : St F where
  M := k0_pay8 (k0_pay6 v23 rk s.M s.C)
  A := k0_pay7 v20 (k0_pay5 v23 rk) s.M (k0_pay6 v23 rk s.M s.C) s.S vt s.A
  S := k0_pay3 v19 kx gx
  C := k0_pay4 v19 kx gx

variable (i : grid0.Coords) (x2 : Vec F S8x32 .f32) (x3 : Vec F S1x128x2048 .bf16) (x4 x5 : Vec F S1x16384x128 .bf16) (x6 : Vec F S1x128x16384 .bf16)

/-- The queries of the tile over the rows that sum the gate's pieces. -/
def qq : FVec F S256x2048 .bf16 := k0_pay69 (View.ld (Val := Elt F) x3 (Rect.unit (s := S1x128x2048) ![0, 0, 0] S1x128x2048.size inb_S1x128x2048_S1x128x2048_0_0_0))
/-- The bias word of the tile's own first block of keys. -/
def rq : Elt F .f32 := (View.ld (Val := Elt F) x2 (Rect.unit (s := S8x32) (k0_off1 i) S1x1.size (k0_off1_inb i)) (Shape.Idx.first pos11))
/-- The keys, or gate pieces, of diagonal block `r`. -/
def kd (x : Vec F S1x16384x128 .bf16) (r : Fin 4) : Vec F S1x512x128 .bf16 := (View.ld (Val := Elt F) x (Rect.unit (s := S1x16384x128) (k0_off2 i (BitVec.ofNat 32 r.val)) S1x512x128.size (k0_off2_inb i r)))
/-- The bias word of diagonal block `r + 1`. -/
def rd (r : Fin 3) : Elt F .f32 := (View.ld (Val := Elt F) x2 (Rect.unit (s := S8x32) (k0_off3 i (BitVec.ofNat 32 (1 + r.val))) S1x1.size (k0_off3_inb i r)) (Shape.Idx.first pos11))
/-- The values of diagonal block `r + 1`. -/
def vd (r : Fin 3) : Vec F S1x128x512 .bf16 := (View.ld (Val := Elt F) x6 (Rect.unit (s := S1x128x16384) (k0_off4 i (BitVec.ofNat 32 (1 + r.val))) S1x128x512.size (k0_off4_inb i r)))
/-- The keys, or gate pieces, of block `r` of trip `k`. -/
def kb (x : Vec F S1x16384x128 .bf16) (k : Fin (k0_t1_loop i).trips) (r : Fin 4) : Vec F S1x512x128 .bf16 := (View.ld (Val := Elt F) x (Rect.unit (s := S1x16384x128) (k0_off5 i k (BitVec.ofNat 32 r.val)) S1x512x128.size (k0_off5_inb i k r)))

/-- One trip of the loop: four steps. -/
def trip1 (k : Fin (k0_t1_loop i).trips) (s : St F) : St F :=
  let s := one (qq x3) (k0_pay70 (F := F)) (rq i x2) (View.ld (Val := Elt F) x2 (Rect.unit (s := S8x32) (k0_off6 i k) S1x1.size (k0_off6_inb i k)) (Shape.Idx.first pos11)) (View.ld (Val := Elt F) x6 (Rect.unit (s := S1x128x16384) (k0_off7 i k) S1x128x512.size (k0_off7_inb i k))) (kb i x4 k 0) (kb i x5 k 0) s
  let s := one (qq x3) (k0_pay70 (F := F)) (rq i x2) (View.ld (Val := Elt F) x2 (Rect.unit (s := S8x32) (k0_off8 i k 1#32) S1x1.size (k0_off8_inb i k 0)) (Shape.Idx.first pos11)) (View.ld (Val := Elt F) x6 (Rect.unit (s := S1x128x16384) (k0_off9 i k 1#32) S1x128x512.size (k0_off9_inb i k 0))) (kb i x4 k 1) (kb i x5 k 1) s
  let s := one (qq x3) (k0_pay70 (F := F)) (rq i x2) (View.ld (Val := Elt F) x2 (Rect.unit (s := S8x32) (k0_off8 i k 2#32) S1x1.size (k0_off8_inb i k 1)) (Shape.Idx.first pos11)) (View.ld (Val := Elt F) x6 (Rect.unit (s := S1x128x16384) (k0_off9 i k 2#32) S1x128x512.size (k0_off9_inb i k 1))) (kb i x4 k 2) (kb i x5 k 2) s
  one (qq x3) (k0_pay70 (F := F)) (rq i x2) (View.ld (Val := Elt F) x2 (Rect.unit (s := S8x32) (k0_off8 i k 3#32) S1x1.size (k0_off8_inb i k 2)) (Shape.Idx.first pos11)) (View.ld (Val := Elt F) x6 (Rect.unit (s := S1x128x16384) (k0_off9 i k 3#32) S1x128x512.size (k0_off9_inb i k 2))) (kb i x4 k 3) (kb i x5 k 3) s

/-- The state after `n` trips from a start. -/
def trips (s₀ : St F) : ℕ → St F
  | 0 => s₀
  | n + 1 => if h : n < (k0_t1_loop i).trips then trip1 i x2 x3 x4 x5 x6 ⟨n, h⟩ (trips s₀ n) else trips s₀ n

theorem trips_zero (s₀ : St F) : trips i x2 x3 x4 x5 x6 s₀ 0 = s₀ := rfl

theorem trips_succ (s₀ : St F) (k : Fin (k0_t1_loop i).trips) :
    trips i x2 x3 x4 x5 x6 s₀ (k.val + 1) = trip1 i x2 x3 x4 x5 x6 k (trips i x2 x3 x4 x5 x6 s₀ k.val) := by
  show (if h : k.val < _ then _ else _) = _
  rw [dif_pos k.isLt]

/-! ### Before the loop: diagonal block 3, then 1, and the scores of block 0 -/

/-- The running maximum of the last 512 queries after diagonal block 3. -/
def m3 : FVec F S1x512 .f32 := k0_pay82 (rq i x2) (rd i x2 2) (window (k0_pay71 (F := F)) ![0, 1536] S1x512.size inb_S1x2048_S1x512_0_1536) (k0_pay76 (qq x3) (kd i x4 3) (kd i x5 3))
/-- Every query's running maximum then. -/
def M3 : Vec F S1x2048 .f32 := put (k0_pay71 (F := F)) ![0, 1536] S1x512.size (k0_pay86 (m3 i x2 x3 x4 x5))
/-- The accumulator after diagonal block 3. -/
def A3 : Vec F S144x2176 .f32 :=
  put (k0_pay73 (k0_pay72 (F := F))) ![0, 1536] S144x512.size
    (k0_pay85 (k0_pay70 (F := F))
      (k0_pay83 (rq i x2) (rd i x2 2) (window (k0_pay71 (F := F)) ![0, 1536] S1x512.size inb_S1x2048_S1x512_0_1536) (k0_pay76 (qq x3) (kd i x4 3) (kd i x5 3)))
      (k0_pay84 (rq i x2) (rd i x2 2) (window (k0_pay71 (F := F)) ![0, 1536] S1x512.size inb_S1x2048_S1x512_0_1536) (k0_pay76 (qq x3) (kd i x4 3) (kd i x5 3)) (k0_pay75 (qq x3) (kd i x4 3) (kd i x5 3)))
      (vd i x6 2) (window (k0_pay73 (k0_pay72 (F := F))) ![0, 1536] S144x512.size inb_S144x2176_S144x512_0_1536))
/-- The running maximum after diagonal block 1. -/
def M1 : Vec F S1x2048 .f32 :=
  put (M3 i x2 x3 x4 x5) ![0, 512] S1x1536.size
    (k0_pay94 (rq i x2) (rd i x2 0) (window (M3 i x2 x3 x4 x5) ![0, 512] S1x1536.size inb_S1x2048_S1x1536_0_512) (k0_pay80 (qq x3) (k0_pay77 (kd i x4 1)) (kd i x5 1)))
/-- The accumulator after diagonal block 1. -/
def A1 : Vec F S144x2176 .f32 :=
  put (A3 i x2 x3 x4 x5 x6) ![0, 512] S144x1536.size
    (k0_pay93 (k0_pay70 (F := F)) (rq i x2) (rd i x2 0) (window (M3 i x2 x3 x4 x5) ![0, 512] S1x1536.size inb_S1x2048_S1x1536_0_512)
      (k0_pay80 (qq x3) (k0_pay77 (kd i x4 1)) (kd i x5 1)) (k0_pay79 (qq x3) (k0_pay77 (kd i x4 1)) (kd i x5 1)) (vd i x6 0)
      (window (A3 i x2 x3 x4 x5 x6) ![0, 512] S144x1536.size inb_S144x2176_S144x1536_0_512))
/-- The column maxima of diagonal block 0's scores. -/
def C0 : Vec F S1x1x2048 .f32 := k0_pay90 (k0_pay89 (qq x3) (kd i x4 0) (kd i x5 0))
/-- The state at the loop's entry. -/
def st0 : St F where
  M := M1 i x2 x3 x4 x5
  A := window (A1 i x2 x3 x4 x5 x6) ![0, 0] S144x2048.size inb_S144x2176_S144x2048_0_0
  S := k0_pay88 (qq x3) (kd i x4 0) (kd i x5 0)
  C := C0 i x3 x4 x5
theorem st0_C : (st0 i x2 x3 x4 x5 x6).C = C0 i x3 x4 x5 := by unfold st0; dsimp only
theorem st0_A : (st0 i x2 x3 x4 x5 x6).A = window (A1 i x2 x3 x4 x5 x6) ![0, 0] S144x2048.size inb_S144x2176_S144x2048_0_0 := by unfold st0; dsimp only
/-- The state the loop leaves. -/
def st1 : St F := trips i x2 x3 x4 x5 x6 (st0 i x2 x3 x4 x5 x6) (k0_t1_loop i).trips

/-! ### After the loop: the pending block, then diagonal block 2, and the quotient -/

/-- The running maximum after the pending block. -/
def Mp : Vec F S1x2048 .f32 := k0_pay105 (rq i x2) (View.ld (Val := Elt F) x2 (Rect.unit (s := S8x32) (k0_off15 i) S1x1.size (k0_off15_inb i)) (Shape.Idx.first pos11)) (st1 i x2 x3 x4 x5 x6).M (st1 i x2 x3 x4 x5 x6).C
/-- The accumulator after the pending block. -/
def Ap : Vec F S144x2048 .f32 :=
  k0_pay104 (k0_pay70 (F := F)) (rq i x2) (View.ld (Val := Elt F) x2 (Rect.unit (s := S8x32) (k0_off15 i) S1x1.size (k0_off15_inb i)) (Shape.Idx.first pos11)) (st1 i x2 x3 x4 x5 x6).M (st1 i x2 x3 x4 x5 x6).C (st1 i x2 x3 x4 x5 x6).S
    (View.ld (Val := Elt F) x6 (Rect.unit (s := S1x128x16384) (k0_off16 i) S1x128x512.size (k0_off16_inb i))) (st1 i x2 x3 x4 x5 x6).A
/-- A box of the accumulator's first 2048 columns. -/
theorem inbA : ∀ a, (![0, 1024] : Fin 2 → ℕ) a + S144x1024.size a ≤ S144x2048.size a := by decide
/-- The accumulator after diagonal block 2. -/
def A2 : Vec F S144x2048 .f32 :=
  put (Ap i x2 x3 x4 x5 x6) ![0, 1024] S144x1024.size
    (k0_pay108 (k0_pay70 (F := F)) (rq i x2) (rd i x2 1) (window (Mp i x2 x3 x4 x5 x6) ![0, 1024] S1x1024.size inb_S1x2048_S1x1024_0_1024)
      (k0_pay101 (qq x3) (kd i x4 2) (kd i x5 2)) (k0_pay100 (qq x3) (kd i x4 2) (kd i x5 2)) (vd i x6 1)
      (window (Ap i x2 x3 x4 x5 x6) ![0, 1024] S144x1024.size inbA))
theorem inbN : ∀ a, (![0, 0] : Fin 2 → ℕ) a + S128x2048.size a ≤ S144x2048.size a := by decide
theorem inbD : ∀ a, (![128, 0] : Fin 2 → ℕ) a + S1x2048.size a ≤ S144x2048.size a := by decide
/-- What a tile writes: the weighted values over the denominators, transposed. -/
def out : Vec F S2048x128 .bf16 :=
  k0_pay1 (k0_pay110 (window (A2 i x2 x3 x4 x5 x6) ![0, 0] S128x2048.size inbN) (window (A2 i x2 x3 x4 x5 x6) ![128, 0] S1x2048.size inbD))

/-! ### The four steps of a trip are one function

The printed payloads of the second, third and fourth step of a trip are the first step's. -/

section Pays
variable (v19 : FVec F S256x2048 .bf16) (v20 : FVec F S16x512 .bf16) (v23 rk : Elt F .f32) (m : Vec F S1x2048 .f32) (c : Vec F S1x1x2048 .f32)
  (sc : Vec F S512x2048 .f32) (vt : Vec F S1x128x512 .bf16) (a : Vec F S144x2048 .f32) (kx gx : Vec F S1x512x128 .bf16)
theorem pay10_eq : k0_pay10 (k0_pay9 v19 kx gx) = k0_pay3 v19 kx gx := rfl
theorem pay11_eq : k0_pay11 (k0_pay9 v19 kx gx) = k0_pay4 v19 kx gx := rfl
theorem pay15_eq : k0_pay15 (k0_pay14 v20 v23 rk m c sc vt a) = k0_pay7 v20 (k0_pay5 v23 rk) m (k0_pay6 v23 rk m c) sc vt a := rfl
theorem pay16_eq : k0_pay16 (k0_pay13 v23 rk m c) = k0_pay8 (k0_pay6 v23 rk m c) := rfl
theorem pay18_eq : k0_pay18 v19 kx gx = k0_pay3 v19 kx gx := rfl
theorem pay19_eq : k0_pay19 v19 kx gx = k0_pay4 v19 kx gx := rfl
theorem pay22_eq : k0_pay22 v20 (k0_pay20 v23 rk) m c sc vt a = k0_pay7 v20 (k0_pay5 v23 rk) m (k0_pay6 v23 rk m c) sc vt a := rfl
theorem pay23_eq : k0_pay23 (k0_pay20 v23 rk) m c = k0_pay8 (k0_pay6 v23 rk m c) := rfl
theorem pay27_eq : k0_pay27 v19 (k0_pay24 kx) (k0_pay25 gx) = k0_pay3 v19 kx gx := rfl
theorem pay28_eq : k0_pay28 v19 (k0_pay24 kx) (k0_pay25 gx) = k0_pay4 v19 kx gx := rfl
theorem pay95_eq : k0_pay95 (k0_pay31 v23 rk m c sc) (k0_pay32 v20 vt) a (k0_pay33 v23 rk m c) = k0_pay7 v20 (k0_pay5 v23 rk) m (k0_pay6 v23 rk m c) sc vt a := rfl
theorem pay96_eq : k0_pay96 (k0_pay30 v23 rk m c) = k0_pay8 (k0_pay6 v23 rk m c) := rfl
end Pays

section Run

variable (arg2 : Memref sig .tc .smem S8x32 .f32) (harg2 : arg2.IsWhole) (arg3 : Memref sig .tc .vmem S1x128x2048 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x128x16384 .bf16) (harg6 : arg6.IsWhole) (arg7 : Memref sig .tc .vmem S32x2048 .f32) (harg7 : arg7.IsWhole) (arg8 : Memref sig .tc .vmem S32x8192 .f32) (harg8 : arg8.IsWhole) (arg9 : Memref sig .tc .vmem S128x2048 .f32) (harg9 : arg9.IsWhole) (arg10 : Memref sig .tc .vmem S2048x128 .bf16) (harg10 : arg10.IsWhole) (arg11 : Memref sig .tc .vmem S32x2048 .bf16) (harg11 : arg11.IsWhole) (arg12 : Memref sig .tc .vmem S32x8192 .bf16) (harg12 : arg12.IsWhole) (arg13 : Memref sig .tc .vmem S128x2048 .bf16) (harg13 : arg13.IsWhole) (arg14 : Memref sig .tc .vmem S1x2048 .f32) (harg14 : arg14.IsWhole) (arg15 : Memref sig .tc .vmem S144x2176 .f32) (harg15 : arg15.IsWhole) (arg16 : Memref sig .tc .vmem S512x2176 .f32) (harg16 : arg16.IsWhole) (arg17 : Memref sig .tc .vmem S512x2176 .f32) (harg17 : arg17.IsWhole) (arg18 : Memref sig .tc .vmem S2x1x2048 .f32) (harg18 : arg18.IsWhole)

omit [FloatOps F] in
/-- The column maxima of slot 0's last 512 queries are not among those just written to slot 1. -/
theorem cm_skip (x : Vec F S2x1x2048 .f32) (w : Vec F S1x1x1536 .f32) (h : ∀ a, (![0, 0, 1536] : Fin 3 → ℕ) a + S1x1x512.size a ≤ S2x1x2048.size a) :
    window (s := S2x1x2048) (put (s := S2x1x2048) x ![1, 0, 512] S1x1x1536.size w) ![0, 0, 1536] S1x1x512.size h = window (s := S2x1x2048) x ![0, 0, 1536] S1x1x512.size h :=
  VecWindow.window_put_of_disjoint (s := S2x1x2048) x _ _ _ _ h w 0 (Or.inl (by decide))

omit [FloatOps F] in
/-- Nor are slot 1's among those just written to slot 0. -/
theorem cm_skip2 (x : Vec F S2x1x2048 .f32) (w : Vec F S1x1x2048 .f32) (h : ∀ a, (![1, 0, 512] : Fin 3 → ℕ) a + S1x1x1536.size a ≤ S2x1x2048.size a) :
    window (s := S2x1x2048) (put (s := S2x1x2048) x ![0, 0, 0] S1x1x2048.size w) ![1, 0, 512] S1x1x1536.size h = window (s := S2x1x2048) x ![1, 0, 512] S1x1x1536.size h :=
  VecWindow.window_put_of_disjoint (s := S2x1x2048) x _ _ _ _ h w 0 (Or.inr (by decide))

omit [FloatOps F] in
/-- The accumulator's last 1024 queries, read back out of what was written to its first 2048 columns. -/
theorem acc_in (x : Vec F S144x2176 .f32) (w : Vec F S144x2048 .f32) (h : ∀ a, (![0, 1024] : Fin 2 → ℕ) a + S144x1024.size a ≤ S144x2176.size a) :
    window (s := S144x2176) (put (s := S144x2176) x ![0, 0] S144x2048.size w) ![0, 1024] S144x1024.size h = window (s := S144x2048) w ![0, 1024] S144x1024.size inbA := by
  refine (VecWindow.window_put_of_inside (s := S144x2176) x ![0, 0] S144x2048.size ![0, 1024] S144x1024.size h w (by decide)).trans ?_
  funext y
  refine congrArg w (funext fun a => Fin.ext ?_)
  fin_cases a <;> rfl

omit [FloatOps F] in
/-- A load out of the first 2048 columns does not see the rest of the buffer. -/
theorem acc_out (x : Vec F S144x2176 .f32) (A : Vec F S144x2048 .f32) (w : Vec F S144x1024 .f32) (off size : Fin 2 → ℕ)
    (h : ∀ a, off a + size a ≤ S144x2176.size a) (h' : ∀ a, off a + size a ≤ S144x2048.size a) :
    window (s := S144x2176) (put (s := S144x2176) (put (s := S144x2176) x ![0, 0] S144x2048.size A) ![0, 1024] S144x1024.size w) off size h
      = window (s := S144x2048) (put (s := S144x2048) A ![0, 1024] S144x1024.size w) off size h' := by
  funext y
  unfold VecWindow.window VecWindow.put
  have e0 : ∀ a : Fin 2, ((Rect.unit (s := S144x2176) off size h).emb y a).val = ((Rect.unit (s := S144x2048) off size h').emb y a).val := fun a => rfl
  have e1 : ∀ a : Fin 2, ((Rect.unit (s := S144x2048) off size h').emb y a).val < S144x2048.size a := fun a => ((Rect.unit (s := S144x2048) off size h').emb y a).isLt
  by_cases hc : ∀ a : Fin 2, (![0, 1024] : Fin 2 → ℕ) a ≤ ((Rect.unit (s := S144x2048) off size h').emb y a).val ∧ ((Rect.unit (s := S144x2048) off size h').emb y a).val < (![0, 1024] : Fin 2 → ℕ) a + S144x1024.size a
  · refine (dif_pos (c := ∀ a : Fin 2, (![0, 1024] : Fin 2 → ℕ) a ≤ ((Rect.unit (s := S144x2176) off size h).emb y a).val ∧ ((Rect.unit (s := S144x2176) off size h).emb y a).val < (![0, 1024] : Fin 2 → ℕ) a + S144x1024.size a) hc).trans ?_
    symm
    exact dif_pos hc
  · refine (dif_neg (c := ∀ a : Fin 2, (![0, 1024] : Fin 2 → ℕ) a ≤ ((Rect.unit (s := S144x2176) off size h).emb y a).val ∧ ((Rect.unit (s := S144x2176) off size h).emb y a).val < (![0, 1024] : Fin 2 → ℕ) a + S144x1024.size a) hc).trans (Eq.trans ?_ (dif_neg hc).symm)
    have hd : ∀ a : Fin 2, (![0, 0] : Fin 2 → ℕ) a ≤ ((Rect.unit (s := S144x2176) off size h).emb y a).val ∧ ((Rect.unit (s := S144x2176) off size h).emb y a).val < (![0, 0] : Fin 2 → ℕ) a + S144x2048.size a := fun a =>
      ⟨by fin_cases a <;> exact Nat.zero_le _, Nat.lt_of_lt_of_le (e1 a) (Nat.le_add_left _ _)⟩
    refine (dif_pos hd).trans (congrArg A (funext fun a => Fin.ext ?_))
    fin_cases a <;> exact Nat.sub_zero _

omit [FloatOps F] in
/-- A load of a box of the contents is a window of what the view reads. -/
theorem readAt_win {sig : RefSig} {κ : Kind} {sp : Space} {S : Shape} {e : EltTy} (v : View sig κ sp S e) (f : v.ty.Contents (Elt F)) {off size : Fin S.rank → ℕ}
    (inb : ∀ a, off a + size a ≤ S.size a) : v.readAt (Elt F) (Rect.unit off size inb).toLoadRect f = window (v.read (Elt F) f) off size inb := rfl

omit [FloatOps F] in
/-- A load of the box just written reads the payload. -/
theorem readAt_head {sig : RefSig} {κ : Kind} {sp : Space} {S : Shape} {e : EltTy} (v : View sig κ sp S e) (f : v.ty.Contents (Elt F)) (r : Rect S)
    (w : r.shape.Idx → Elt F e) (L : List (View.Piece (Elt F) S e)) : v.readAt (Elt F) r.toLoadRect (v.writes (Elt F) f (⟨r, w⟩ :: L)) = w := by
  funext x
  exact View.read_writes_cons_emb v f r w L x

/-- A load of slot 1's column maxima passes over the ones written to slot 0 after it. -/
theorem readCov_skip {sig : RefSig} {κ : Kind} {sp : Space} (v : View sig κ sp S2x1x2048 .f32) (w : S1x1x2048.Idx → Elt F .f32)
    (h : ∀ a, (![0, 0, 0] : Fin 3 → ℕ) a + S1x1x2048.size a ≤ S2x1x2048.size a) (h' : ∀ a, (![1, 0, 0] : Fin 3 → ℕ) a + S1x1x2048.size a ≤ S2x1x2048.size a)
    (L : List (View.Piece (Elt F) S2x1x2048 .f32)) :
    v.readCov (⟨Rect.unit (s := S2x1x2048) ![0, 0, 0] S1x1x2048.size h, w⟩ :: L) (Rect.unit (s := S2x1x2048) ![1, 0, 0] S1x1x2048.size h').toLoadRect
      = v.readCov L (Rect.unit (s := S2x1x2048) ![1, 0, 0] S1x1x2048.size h').toLoadRect := by
  refine View.readCov_cons_of_disjoint v _ L _ ?_
  exact Rect.unit_disjoint (inb := h) 0 (Or.inl (by decide))

/-- A load of slot 0's column maxima passes over the ones written to slot 1 after it. -/
theorem readCov_skip' {sig : RefSig} {κ : Kind} {sp : Space} (v : View sig κ sp S2x1x2048 .f32) (w : S1x1x2048.Idx → Elt F .f32)
    (h : ∀ a, (![1, 0, 0] : Fin 3 → ℕ) a + S1x1x2048.size a ≤ S2x1x2048.size a) (h' : ∀ a, (![0, 0, 0] : Fin 3 → ℕ) a + S1x1x2048.size a ≤ S2x1x2048.size a)
    (L : List (View.Piece (Elt F) S2x1x2048 .f32)) :
    v.readCov (⟨Rect.unit (s := S2x1x2048) ![1, 0, 0] S1x1x2048.size h, w⟩ :: L) (Rect.unit (s := S2x1x2048) ![0, 0, 0] S1x1x2048.size h').toLoadRect
      = v.readCov L (Rect.unit (s := S2x1x2048) ![0, 0, 0] S1x1x2048.size h').toLoadRect := by
  refine View.readCov_cons_of_disjoint v _ L _ ?_
  exact Rect.unit_disjoint (inb := h) 0 (Or.inr (by decide))

/-- What the loop holds: the inputs it reads, and the five scratch buffers, four of them at the state `s`. -/
def held (c : Dev nD) (X2 : BufTy.Contents (Elt F) arg2.view.ty) (X4 : BufTy.Contents (Elt F) arg4.view.ty) (X5 : BufTy.Contents (Elt F) arg5.view.ty) (X6 : BufTy.Contents (Elt F) arg6.view.ty) (s : St F) : sProp 𝕄G :=
  iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f14, (arg14.view.loc (c : Thread nD τ) ↦[arg14.view.set]{fullShare} f14) ∗ ⌜arg14.view.readAt (Elt F) (Rect.unit (s := S1x2048) ![0, 0] S1x2048.size inb_S1x2048_S1x2048_0_0).toLoadRect f14 = s.M⌝) ∗ (∃ f15, (arg15.view.loc (c : Thread nD τ) ↦[arg15.view.set]{fullShare} f15) ∗ ⌜arg15.view.readAt (Elt F) (Rect.unit (s := S144x2176) ![0, 0] S144x2048.size inb_S144x2176_S144x2048_0_0).toLoadRect f15 = s.A⌝) ∗ (∃ f16, (arg16.view.loc (c : Thread nD τ) ↦[arg16.view.set]{fullShare} f16) ∗ ⌜arg16.view.readAt (Elt F) (Rect.unit (s := S512x2176) ![0, 0] S512x2048.size inb_S512x2176_S512x2048_0_0).toLoadRect f16 = s.S⌝) ∗ (∃ f17, (arg17.view.loc (c : Thread nD τ) ↦[arg17.view.set]{fullShare} f17)) ∗ (∃ f18, (arg18.view.loc (c : Thread nD τ) ↦[arg18.view.set]{fullShare} f18) ∗ ⌜arg18.view.readAt (Elt F) (Rect.unit (s := S2x1x2048) ![0, 0, 0] S1x1x2048.size inb_S2x1x2048_S1x1x2048_0_0_0).toLoadRect f18 = s.C⌝))

/-- One trip of the loop takes the state to the next. -/
theorem trip (𝒱 : Variants) (c : Dev nD) (bd : Option 𝒱.V) (arg0 arg1 v9 : BitVec 32) (v179 : FVec F S1x1536 .f32)
    (X2 : BufTy.Contents (Elt F) arg2.view.ty) (X4 : BufTy.Contents (Elt F) arg4.view.ty) (X5 : BufTy.Contents (Elt F) arg5.view.ty) (X6 : BufTy.Contents (Elt F) arg6.view.ty) (k : Fin (k0_t1_loop i).trips) (s : St F) (E : Set ℕ) :
    held arg2 arg4 arg5 arg6 arg14 arg15 arg16 arg17 arg18 c X2 X4 X5 X6 s
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v9 (qq x3) (k0_pay70 (F := F)) (rq i (arg2.view.read (Elt F) X2)) v179 k PUnit.unit)
        (fun _ => held arg2 arg4 arg5 arg6 arg14 arg15 arg16 arg17 arg18 c X2 X4 X5 X6 (trip1 i (arg2.view.read (Elt F) X2) x3 (arg4.view.read (Elt F) X4) (arg5.view.read (Elt F) X5) (arg6.view.read (Elt F) X6) k s)) := by
  unfold k0_t1_body
  conv_lhs => unfold held
  iintro ⟨H2, H4, H5, H6, ⟨%f14, H14, %e14⟩, ⟨%f15, H15, %e15⟩, ⟨%f16, H16, %e16⟩, ⟨%f17, H17⟩, ⟨%f18, H18, %e18⟩⟩
  sl_exec
  sl_step
  unfold held
  isplitl [H2]; · iexact H2
  isplitl [H4]; · iexact H4
  isplitl [H5]; · iexact H5
  isplitl [H6]; · iexact H6
  isplitl [H14]
  · iexists _; isplitl [H14]; · iexact H14
    ipureintro
    refine (readAt_head _ _ _ _ _).trans ?_
    sl_unfold_words
    repeat first | rw [View.readCov_cons_toLoadRect] | rw [readCov_skip] | rw [readCov_skip']
    simp only [pay10_eq, pay11_eq, pay15_eq, pay16_eq, pay18_eq, pay19_eq, pay22_eq, pay23_eq, pay27_eq, pay28_eq, pay95_eq, pay96_eq, trip1, one]
    rfl
  isplitl [H15]
  · iexists _; isplitl [H15]; · iexact H15
    ipureintro
    refine (readAt_head _ _ _ _ _).trans ?_
    sl_unfold_words
    repeat first | rw [View.readCov_cons_toLoadRect] | rw [readCov_skip] | rw [readCov_skip']
    simp only [pay10_eq, pay11_eq, pay15_eq, pay16_eq, pay18_eq, pay19_eq, pay22_eq, pay23_eq, pay27_eq, pay28_eq, pay95_eq, pay96_eq, trip1, one]
    rfl
  isplitl [H16]
  · iexists _; isplitl [H16]; · iexact H16
    ipureintro
    refine (readAt_head _ _ _ _ _).trans ?_
    sl_unfold_words
    repeat first | rw [View.readCov_cons_toLoadRect] | rw [readCov_skip] | rw [readCov_skip']
    simp only [pay10_eq, pay11_eq, pay15_eq, pay16_eq, pay18_eq, pay19_eq, pay22_eq, pay23_eq, pay27_eq, pay28_eq, pay95_eq, pay96_eq, trip1, one]
    rfl
  isplitl [H17]; · iexists _; iexact H17
  · iexists _; isplitl [H18]; · iexact H18
    ipureintro
    refine (readAt_head _ _ _ _ _).trans ?_
    sl_unfold_words
    repeat first | rw [View.readCov_cons_toLoadRect] | rw [readCov_skip] | rw [readCov_skip']
    simp only [pay10_eq, pay11_eq, pay15_eq, pay16_eq, pay18_eq, pay19_eq, pay22_eq, pay23_eq, pay27_eq, pay28_eq, pay95_eq, pay96_eq, trip1, one]
    rfl

/-- The whole body at one grid point: the tile's output, the three casts, and everything else as it was. -/
theorem body (𝒱 : Variants) (c : Dev nD) (bd : Option 𝒱.V) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (E : Set ℕ) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)) : sProp 𝕄G)
      ⊢ wp frame (wpE (defs₀ (F := F)) 𝒱 (c : Thread nD τ) bd) E (cc0_fox_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ g10, (arg10.view.loc (c : Thread nD τ) ↦[arg10.view.set]{fullShare} g10) ∗ ⌜arg10.view.read (Elt F) g10 = out i (arg2.view.read (Elt F) X2) (arg3.view.read (Elt F) X3) (arg4.view.read (Elt F) X4) (arg5.view.read (Elt F) X5) (arg6.view.read (Elt F) X6)⌝) ∗ (∃ g11, (arg11.view.loc (c : Thread nD τ) ↦[arg11.view.set]{fullShare} g11) ∗ ⌜arg11.view.read (Elt F) g11 = k0_pay66 (arg7.view.read (Elt F) X7)⌝) ∗ (∃ g12, (arg12.view.loc (c : Thread nD τ) ↦[arg12.view.set]{fullShare} g12) ∗ ⌜arg12.view.read (Elt F) g12 = k0_pay67 (arg8.view.read (Elt F) X8)⌝) ∗ (∃ g13, (arg13.view.loc (c : Thread nD τ) ↦[arg13.view.set]{fullShare} g13) ∗ ⌜arg13.view.read (Elt F) g13 = k0_pay68 (arg9.view.read (Elt F) X9)⌝) ∗ (∃ g14, (arg14.view.loc (c : Thread nD τ) ↦[arg14.view.set]{fullShare} g14)) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17)) ∗ (∃ g18, (arg18.view.loc (c : Thread nD τ) ↦[arg18.view.set]{fullShare} g18))) : sProp 𝕄G)) := by
  have htr : (k0_t2_loop i).trips = 0 := by revert i; decide +kernel
  rw [cc0_fox_attn_eq_skeleton]
  unfold cc0_fox_attn_skel
  iintro ⟨H2, H3, H4, H5, H6, H7, H8, H9, H10, H11, H12, H13, H14, H15, H16, H17, H18⟩
  sl_exec
  sl_for (fun n _ => held arg2 arg4 arg5 arg6 arg14 arg15 arg16 arg17 arg18 c X2 X4 X5 X6 (trips i (arg2.view.read (Elt F) X2) (arg3.view.read (Elt F) X3) (arg4.view.read (Elt F) X4) (arg5.view.read (Elt F) X5) (arg6.view.read (Elt F) X6) (st0 i (arg2.view.read (Elt F) X2) (arg3.view.read (Elt F) X3) (arg4.view.read (Elt F) X4) (arg5.view.read (Elt F) X5) (arg6.view.read (Elt F) X6)) n)) $$ [H2 H4 H5 H6 H14 H15 H16 H17 H18]
  case region =>
    intro k acc
    rw [trips_succ]
    exact trip i (arg3.view.read (Elt F) X3) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 c bd _ _ _ _ X2 X4 X5 X6 k _ E
  · rw [trips_zero]
    unfold held
    isplitl [H2]; · iexact H2
    isplitl [H4]; · iexact H4
    isplitl [H5]; · iexact H5
    isplitl [H6]; · iexact H6
    isplitl [H14]
    · iexists _; isplitl [H14]; · iexact H14
      ipureintro
      sl_unfold_words
      unfold View.readCov
      repeat rw [View.readAt_full arg14.view]
      repeat rw [readAt_win arg14.view]
      repeat rw [readAt_win arg15.view]
      repeat rw [readAt_win arg16.view]
      repeat rw [readAt_win arg17.view]
      repeat rw [readAt_win arg18.view]
      repeat first | rw [View.read_writes_full] | rw [View.read_writes_cons_put _ _ _ _ _ rfl]
      repeat first | rw [cm_skip] | rw [cm_skip2] | rw [VecWindow.window_put_same]
      show _ = M1 _ _ _ _ _
      unfold M1 M3 m3
      rfl
    isplitl [H15]
    · iexists _; isplitl [H15]; · iexact H15
      ipureintro
      sl_unfold_words
      unfold View.readCov
      repeat rw [View.readAt_full arg14.view]
      repeat rw [readAt_win arg14.view]
      repeat rw [readAt_win arg15.view]
      repeat rw [readAt_win arg16.view]
      repeat rw [readAt_win arg17.view]
      repeat rw [readAt_win arg18.view]
      repeat first | rw [View.read_writes_full] | rw [View.read_writes_cons_put _ _ _ _ _ rfl]
      repeat first | rw [cm_skip] | rw [cm_skip2] | rw [VecWindow.window_put_same]
      rw [st0_A]
      unfold A1 A3 M3 m3
      rfl
    isplitl [H16]
    · iexists _; isplitl [H16]; · iexact H16
      ipureintro
      refine (readAt_head _ _ _ _ _).trans ?_
      sl_unfold_words
      show _ = k0_pay88 (qq _) (kd _ _ 0) (kd _ _ 0)
      rfl
    isplitl [H17]; · iexists _; iexact H17
    · iexists _; isplitl [H18]; · iexact H18
      ipureintro
      refine (readAt_head _ _ _ _ _).trans ?_
      sl_unfold_words
      rw [st0_C]
      unfold C0
      refine congrArg k0_pay90 ?_
      rfl
  iintro %acc HI
  ihave HI' := (show held arg2 arg4 arg5 arg6 arg14 arg15 arg16 arg17 arg18 c X2 X4 X5 X6 (trips i (arg2.view.read (Elt F) X2) (arg3.view.read (Elt F) X3) (arg4.view.read (Elt F) X4) (arg5.view.read (Elt F) X5) (arg6.view.read (Elt F) X6) (st0 i (arg2.view.read (Elt F) X2) (arg3.view.read (Elt F) X3) (arg4.view.read (Elt F) X4) (arg5.view.read (Elt F) X5) (arg6.view.read (Elt F) X6)) (k0_t1_loop i).trips) ⊢ held arg2 arg4 arg5 arg6 arg14 arg15 arg16 arg17 arg18 c X2 X4 X5 X6 (st1 i (arg2.view.read (Elt F) X2) (arg3.view.read (Elt F) X3) (arg4.view.read (Elt F) X4) (arg5.view.read (Elt F) X5) (arg6.view.read (Elt F) X6)) from .rfl) $$ HI
  ihave HI2 := (show held arg2 arg4 arg5 arg6 arg14 arg15 arg16 arg17 arg18 c X2 X4 X5 X6 (st1 i (arg2.view.read (Elt F) X2) (arg3.view.read (Elt F) X3) (arg4.view.read (Elt F) X4) (arg5.view.read (Elt F) X5) (arg6.view.read (Elt F) X6)) ⊢ _ from by unfold held; exact .rfl) $$ HI'
  icases HI2 with ⟨H2, H4, H5, H6, ⟨%f14', H14, %e14⟩, ⟨%f15', H15, %e15⟩, ⟨%f16', H16, %e16⟩, ⟨%f17', H17⟩, ⟨%f18', H18, %e18⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    refine (View.read_writes_full _ _ _ _ _).trans ?_
    sl_unfold_words
    unfold View.readCov
    try rw [e15]
    try rw [e16]
    try rw [e14]
    try rw [e18]
    repeat rw [readAt_win arg14.view]
    repeat rw [readAt_win arg15.view]
    repeat rw [readAt_win arg17.view]
    repeat rw [readAt_win arg18.view]
    repeat first | rw [View.read_writes_full] | rw [View.read_writes_cons_put _ _ _ _ _ rfl]
    repeat rw [acc_out _ _ _ _ _ _ inbN]
    repeat rw [acc_out _ _ _ _ _ _ inbD]
    repeat first | rw [acc_in] | rw [VecWindow.window_put_same]
    unfold out A2 Ap Mp
    rfl
  isplitl [H11]
  · iexists _; isplitl [H11]; · iexact H11
    ipureintro
    sl_unfold_words
    rw [View.read_writes_full, View.readAt_full]
  isplitl [H12]
  · iexists _; isplitl [H12]; · iexact H12
    ipureintro
    sl_unfold_words
    rw [View.read_writes_full, View.readAt_full]
  isplitl [H13]
  · iexists _; isplitl [H13]; · iexact H13
    ipureintro
    sl_unfold_words
    rw [View.read_writes_full, View.readAt_full]
  isplitl [H14]; · iexists _; iexact H14
  isplitl [H15]; · iexists _; iexact H15
  isplitl [H16]; · iexists _; iexact H16
  isplitl [H17]; · iexists _; iexact H17
  · iexists _; iexact H18

end Run

end Cert.KernelIdeal.Att

end
-- ==== Proof.AttIdealRun.lean ====
module

public import proofs.«01_k».proof.Proof.AttIdeal
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄G" => MT nD τ sig Unit (Elt F) ℕ (UR sig nD τ) ℕ

/-! What the pipeline around the attention body computes: the proof data, the body obligation, the launch. -/
variable (m : (ℓ : Loc nD τ sig) → Buf (Elt F) ℓ) (ρ : Dev nD → PrngReg)

/-- The pipeline's proof data: every array as the call finds it; after a point each input's buffer still at its block and
    each output's at what the body computes of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out (grid0.coords t) (iblk m c 0 t) (iblk m c 1 t) (iblk m c 2 t) (iblk m c 3 t) (iblk m c 4 t)
    | ⟨9, _⟩ => k0_pay66 (iblk m c 5 t)
    | ⟨10, _⟩ => k0_pay67 (iblk m c 6 t)
    | ⟨11, _⟩ => k0_pay68 (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out (grid0.coords t) (iblk m c 0 t) (iblk m c 1 t) (iblk m c 2 t) (iblk m c 3 t) (iblk m c 4 t) := by dsimp only [dats]
theorem after0_9 (c : Dev nD) (t : Fin cfg0.N) : (dats m 0 c).after 9 t = k0_pay66 (iblk m c 5 t) := by dsimp only [dats]
theorem after0_10 (c : Dev nD) (t : Fin cfg0.N) : (dats m 0 c).after 10 t = k0_pay67 (iblk m c 6 t) := by dsimp only [dats]
theorem after0_11 (c : Dev nD) (t : Fin cfg0.N) : (dats m 0 c).after 11 t = k0_pay68 (iblk m c 7 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the body is given at a point, -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl]
  unfold Pipeline.ΦA
  rw [scopedRest0_eq]
  unfold owns
  iintro ⟨⟨⟨⟨%f14, S0⟩, ⟨%f15, S1⟩, ⟨%f16, S2⟩, ⟨%f17, S3⟩, ⟨%f18, S4⟩⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  iapply (wp_wand_r _ _ _)
  isplitl [S0 S1 S2 S3 S4 H0 H1 H2 H3 H4 H5 H6 H7 H8 H9 H10 H11]
  · iapply (body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) Variants.none c none f0 f1 f2 f3 f4 f5 f6 f7 f8 f9 f10 f11 f14 f15 f16 f17 f18 Set.univ)
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    iexact S4
  simp only [Memref.view_whole, View.set_whole]
  iintro %u ⟨H0, H1, H2, H3, H4, H5, H6, H7, ⟨%g8, H8, %q8⟩, ⟨%g9, H9, %q9⟩, ⟨%g10, H10, %q10⟩, ⟨%g11, H11, %q11⟩, ⟨%g14, S0⟩, ⟨%g15, S1⟩, ⟨%g16, S2⟩, ⟨%g17, S3⟩, ⟨%g18, S4⟩⟩
  isplitl [S0 S1 S2 S3 S4 Hp]
  · isplitr [Hp]
    · isplitl [S0]; · iexists g14; iexact S0
      isplitl [S1]; · iexists g15; iexact S1
      isplitl [S2]; · iexists g16; iexact S2
      isplitl [S3]; · iexists g17; iexact S3
      iexists g18; iexact S4
    · iexact Hp
  isplitl [Ho]; · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists g8; isplitr
    · ipureintro; rw [q8, e0, e1, e2, e3, e4]
    · iexact H8
  isplitl [H9]
  · iexists g9; isplitr
    · ipureintro; rw [q9, e5]
    · iexact H9
  isplitl [H10]
  · iexists g10; isplitr
    · ipureintro; rw [q10, e6]
    · iexact H10
  iexists g11; isplitr
  · ipureintro; rw [q11, e7]
  · iexact H11

/-- The body table's row at a point's buffers is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data says, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Att

end
-- ==== Proof.AttMath.lean ====
/- The running softmax of one query, as a statement about real sums: folding a block of keys into a running maximum and
   a running weighted sum keeps the sum, and the last quotient does not depend on the base the sum was taken at. -/
module

public import Idealize.ShloMosaic.Lib.Pointwise

@[expose] public section

set_option maxRecDepth 16384

noncomputable section

namespace Cert.Att

open Idealize.ShloMosaic

/-- The keys query `Q` may look at, of the blocks in `P`. -/
def keys (Q : ℕ) (P : Finset ℕ) : Finset ℕ := (Finset.range (Q + 1)).filter (fun K => K / 512 ∈ P)

/-- `A` is the sum, over the keys in `P`, of the weights `w` times two to the logit less the running maximum `M`; of no
    keys, the maximum is minus infinity and the sum zero. -/
def Run (L w : ℕ → ℝ) (Q : ℕ) (P : Finset ℕ) (M A : EReal) : Prop :=
  (keys Q P = ∅ ∧ M = ⊥ ∧ A = 0) ∨ ∃ μ : ℝ, M = μ ∧ A = ((∑ K ∈ keys Q P, Real.rpow 2 (L K - μ) * w K : ℝ) : EReal)

/-- A finite sum of reals is a real. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The largest of a family of reals and minus infinities, one of them real, is real. -/
theorem fold_real {n : ℕ} (f : Fin n → EReal) (hf : ∀ k, f k = ⊥ ∨ ∃ x : ℝ, f k = x) (k₀ : Fin n) (hk : ∃ x : ℝ, f k₀ = x) :
    ∃ x : ℝ, Finset.univ.fold max (⊥ : EReal) f = x := by
  have hle : f k₀ ≤ Finset.univ.fold max (⊥ : EReal) f := by
    rw [Finset.le_fold_max]; exact Or.inr ⟨k₀, Finset.mem_univ _, le_rfl⟩
  have hlt : Finset.univ.fold max (⊥ : EReal) f < ⊤ := by
    rw [Finset.fold_max_lt]
    refine ⟨bot_lt_top, fun k _ => ?_⟩
    rcases hf k with h | ⟨x, h⟩ <;> rw [h]
    · exact bot_lt_top
    · exact EReal.coe_lt_top x
  obtain ⟨x, hx⟩ := hk
  have hne : Finset.univ.fold max (⊥ : EReal) f ≠ ⊥ := by
    intro h; rw [h, hx] at hle; exact absurd hle (not_le.mpr (EReal.bot_lt_coe x))
  exact ⟨_, (EReal.coe_toReal hlt.ne hne).symm⟩

/-- Adding a block adds its keys. -/
theorem sum_keys_insert (f : ℕ → ℝ) (Q b : ℕ) (P : Finset ℕ) (hb : b ∉ P) :
    ∑ K ∈ keys Q (insert b P), f K = (∑ K ∈ keys Q P, f K) + ∑ kk : Fin 512, if 512 * b + kk.val ≤ Q then f (512 * b + kk.val) else 0 := by
  have e : keys Q (insert b P) = keys Q P ∪ (Finset.range (Q + 1)).filter (fun K => K / 512 = b) := by
    ext K
    simp only [keys, Finset.mem_filter, Finset.mem_union, Finset.mem_range, Finset.mem_insert]
    tauto
  have hd : Disjoint (keys Q P) ((Finset.range (Q + 1)).filter (fun K => K / 512 = b)) := by
    rw [Finset.disjoint_left]
    intro K h1 h2
    simp only [keys, Finset.mem_filter] at h1 h2
    exact hb (h2.2 ▸ h1.2)
  rw [e, Finset.sum_union hd]
  congr 1
  rw [Fin.sum_univ_eq_sum_range (fun k => if 512 * b + k ≤ Q then f (512 * b + k) else 0) 512, ← Finset.sum_filter]
  refine (Finset.sum_bij (fun k _ => 512 * b + k) ?_ ?_ ?_ ?_).symm
  · intro k hk
    simp only [Finset.mem_filter, Finset.mem_range] at hk ⊢
    omega
  · intro a _ a' _ h; simpa using h
  · intro K hK
    simp only [Finset.mem_filter, Finset.mem_range] at hK
    refine ⟨K - 512 * b, ?_, ?_⟩
    · simp only [Finset.mem_filter, Finset.mem_range]; omega
    · omega
  · intro k _; rfl

/-- A block all of whose keys come after the query adds nothing. -/
theorem Run.skip {L w : ℕ → ℝ} {Q : ℕ} {P : Finset ℕ} {M A : EReal} (h : Run L w Q P M A) (b : ℕ) (hb : Q < 512 * b) :
    Run L w Q (insert b P) M A := by
  have e : keys Q (insert b P) = keys Q P := by
    ext K
    simp only [keys, Finset.mem_filter, Finset.mem_range, Finset.mem_insert]
    constructor
    · rintro ⟨h1, h2 | h2⟩
      · omega
      · exact ⟨h1, h2⟩
    · rintro ⟨h1, h2⟩; exact ⟨h1, Or.inr h2⟩
  unfold Run; rw [e]; exact h

/-- Before any block. -/
theorem Run.empty (L w : ℕ → ℝ) (Q : ℕ) : Run L w Q ∅ ⊥ 0 := Or.inl ⟨by ext K; simp [keys], rfl, rfl⟩

/-- One block folded in: the new maximum is real, and the sum gains the block's keys. -/
theorem Run.step {L w : ℕ → ℝ} {Q : ℕ} {P : Finset ℕ} {M A : EReal} (h : Run L w Q P M A) (b : ℕ) (hb : b ∉ P)
    (γ σ : ℝ) (S V : Fin 512 → EReal)
    (hS : ∀ kk : Fin 512, S kk = if 512 * b + kk.val ≤ Q then ((L (512 * b + kk.val) - σ : ℝ) : EReal) else ⊥)
    (hV : ∀ kk : Fin 512, V kk = (w (512 * b + kk.val) : ℝ)) :
    Run L w Q (insert b P) (max M (γ + σ))
      (Ideal.exp2 (M - max M (γ + σ)) * A + ∑ kk : Fin 512, V kk * Ideal.exp2 (S kk - (max M (γ + σ) - σ))) := by
  have hm : ∃ ν : ℝ, max M ((γ : EReal) + σ) = ν := by
    rcases h with ⟨_, h, _⟩ | ⟨μ, h, _⟩
    · exact ⟨γ + σ, by rw [h, max_eq_right bot_le, EReal.coe_add]⟩
    · exact ⟨max μ (γ + σ), by rw [h, ← EReal.coe_add]; exact (Monotone.map_max (fun a b hab => EReal.coe_le_coe_iff.mpr hab)).symm⟩
  obtain ⟨ν, hν⟩ := hm
  rw [hν]
  refine Or.inr ⟨ν, rfl, ?_⟩
  rw [sum_keys_insert _ _ _ _ hb, EReal.coe_add]
  congr 1
  · rcases h with ⟨he, h, h0⟩ | ⟨μ, h, h0⟩
    · rw [he, h0]; simp
    · rw [h, h0, ← EReal.coe_sub, Ideal.exp2_coe, ← EReal.coe_mul, Finset.mul_sum]
      congr 1
      refine Finset.sum_congr rfl fun K _ => ?_
      rw [← mul_assoc]; congr 1
      show (2 : ℝ) ^ (μ - ν) * (2 : ℝ) ^ (L K - μ) = (2 : ℝ) ^ (L K - ν)
      rw [← Real.rpow_add (by norm_num)]; congr 1; ring
  · rw [coe_sum]
    refine Finset.sum_congr rfl fun kk _ => ?_
    rw [hS, hV]
    split_ifs with hq
    · rw [← EReal.coe_sub, ← EReal.coe_sub, Ideal.exp2_coe, ← EReal.coe_mul, mul_comm]
      congr 3; ring
    · rw [← EReal.coe_sub, EReal.bot_sub, Ideal.exp2_bot, mul_zero, EReal.coe_zero]

/-- What the layer asks for: the weights averaged with weights two to the logits. -/
def soft (L w : ℕ → ℝ) (Q : ℕ) : ℝ := (∑ K ∈ Finset.range (Q + 1), Real.rpow 2 (L K) * w K) / ∑ K ∈ Finset.range (Q + 1), Real.rpow 2 (L K)

/-- The sum of the powers is positive. -/
theorem denom_pos (L : ℕ → ℝ) (Q : ℕ) : 0 < ∑ K ∈ Finset.range (Q + 1), Real.rpow 2 (L K) :=
  Finset.sum_pos (fun K _ => Real.rpow_pos_of_pos (by norm_num) _) ⟨0, by simp⟩

/-- The average does not see a shift of the logits. -/
theorem soft_shift (L L' w : ℕ → ℝ) (Q : ℕ) (δ : ℝ) (h : ∀ K ≤ Q, L' K = L K + δ) : soft L' w Q = soft L w Q := by
  unfold soft
  have e : ∀ K ∈ Finset.range (Q + 1), Real.rpow 2 (L' K) = Real.rpow 2 δ * Real.rpow 2 (L K) := by
    intro K hK
    rw [h K (by simpa [Nat.lt_succ_iff] using hK)]
    show (2 : ℝ) ^ (L K + δ) = (2 : ℝ) ^ δ * (2 : ℝ) ^ (L K)
    rw [← Real.rpow_add (by norm_num)]; congr 1; ring
  rw [Finset.sum_congr rfl e, Finset.sum_congr rfl (fun K hK => by rw [e K hK, mul_assoc] :
    ∀ K ∈ Finset.range (Q + 1), Real.rpow 2 (L' K) * w K = Real.rpow 2 δ * (Real.rpow 2 (L K) * w K)),
    ← Finset.mul_sum, ← Finset.mul_sum]
  exact mul_div_mul_left _ _ (Real.rpow_pos_of_pos (by norm_num) _).ne'

/-- The quotient of two reals, the divisor not zero. -/
theorem div_real (x y : ℝ) (h : y ≠ 0) : Ideal.div x y = ((x / y : ℝ) : EReal) := by
  rw [Ideal.div_coe h, ← EReal.coe_mul]; congr 1; ring

/-- The quotient of the running sum by the running denominator, every key folded in, is the average. -/
theorem Run.quotient {L w : ℕ → ℝ} {Q : ℕ} {P : Finset ℕ} {M A D : EReal} (hP : ∀ K ≤ Q, K / 512 ∈ P)
    (h : Run L w Q P M A) (hD : Run L (fun _ => 1) Q P M D) : Ideal.div A D = (soft L w Q : EReal) := by
  have e : keys Q P = Finset.range (Q + 1) := by
    unfold keys
    exact Finset.filter_true_of_mem fun K hK => hP K (by simpa [Nat.lt_succ_iff] using hK)
  rcases h with ⟨h, _⟩ | ⟨μ, hμ, hA⟩
  · rw [e] at h; simp at h
  rcases hD with ⟨h, _⟩ | ⟨μ', hμ', hD⟩
  · rw [e] at h; simp at h
  have hμe : μ' = μ := EReal.coe_injective (hμ'.symm.trans hμ)
  subst hμe
  rw [e] at hA hD
  simp only [mul_one] at hD
  rw [hA, hD, div_real _ _ (denom_pos (fun K => L K - μ') Q).ne']
  congr 1
  exact soft_shift L (fun K => L K - μ') w Q (-μ') (fun K _ => by ring)

/-- A sum over the keys of the whole array, zero past the query, is the sum over the keys up to it. -/
theorem sum_upto (f : ℕ → ℝ) (Q : ℕ) (hQ : Q < 16384) :
    ∑ k : Fin 16384, (if k.val ≤ Q then f k.val else 0) = ∑ K ∈ Finset.range (Q + 1), f K := by
  rw [Fin.sum_univ_eq_sum_range (fun k => if k ≤ Q then f k else 0) 16384, ← Finset.sum_filter]
  refine Finset.sum_congr (Finset.ext fun K => ?_) fun _ _ => rfl
  simp only [Finset.mem_filter, Finset.mem_range]; omega

/-- The plain softmax, with its maximum taken off and its masked logits minus infinity, averages the weights. -/
theorem plain_soft (L w : ℕ → ℝ) (Q : ℕ) (hQ : Q < 16384) (lg V : Fin 16384 → EReal)
    (hl : ∀ k, lg k = if k.val ≤ Q then (L k.val : EReal) else ⊥) (hV : ∀ k, V k = (w k.val : ℝ)) (mx : EReal)
    (hm : ∃ x : ℝ, mx = x) :
    ∑ k : Fin 16384, V k * Ideal.div (Ideal.pow ((2 : ℝ) : EReal) (lg k - mx)) (0 + ∑ j : Fin 16384, Ideal.pow ((2 : ℝ) : EReal) (lg j - mx))
      = (soft L w Q : EReal) := by
  obtain ⟨x, rfl⟩ := hm
  have hp : ∀ k, Ideal.pow ((2 : ℝ) : EReal) (lg k - (x : EReal)) = ((if k.val ≤ Q then Real.rpow 2 (L k.val - x) else 0 : ℝ) : EReal) := by
    intro k
    rw [hl]
    split_ifs with h
    · rw [← EReal.coe_sub, Ideal.pow_coe_coe]
    · rw [EReal.bot_sub, Ideal.pow_coe_bot, if_neg (by norm_num), if_pos (by norm_num), EReal.coe_zero]
  simp only [hp, hV, zero_add]
  rw [← coe_sum, sum_upto (fun K => Real.rpow 2 (L K - x)) Q hQ]
  have hd := denom_pos (fun K => L K - x) Q
  simp only [div_real _ _ hd.ne', ← EReal.coe_mul]
  rw [← coe_sum]
  refine congrArg _ ?_
  rw [← soft_shift L (fun K => L K - x) w Q (-x) (fun K _ => by ring)]
  unfold soft
  rw [← sum_upto (fun K => Real.rpow 2 (L K - x) * w K) Q hQ, Finset.sum_div]
  refine Finset.sum_congr rfl fun k _ => ?_
  split_ifs <;> ring

end Cert.Att

end
-- ==== Proof.AttPay.lean ====
/- The attention tile's steps over the reals: what a block's scores are, and what folding a block in does to the running
   softmax of one query. -/
module

public import proofs.«01_k».proof.Proof.AttIdeal
public import proofs.«01_k».proof.Proof.AttMath
public import Idealize.ShloMosaic.Lib.Pipeline.ValueKit.Tiles
public import Idealize.ShloMosaic.Lib.Pointwise

@[expose] public section

set_option maxRecDepth 16384

noncomputable section

namespace Cert.KernelIdeal.Att

open Idealize.ShloMosaic Idealize.ShloMosaic.VecWindow Cert.KernelIdeal Cert.KernelIdeal.Gen Cert.Att

/-- One head's real inputs, and one tile's queries: block starts, queries, keys, gate pieces, values. -/
structure Vals where
  /-- the bias at the start of each block of keys -/
  r : ℕ → ℝ
  /-- the queries of the tile -/
  q : Fin 128 → Fin 2048 → ℝ
  /-- the keys -/
  k : ℕ → Fin 128 → ℝ
  /-- the gate's pieces -/
  g : ℕ → Fin 128 → ℝ
  /-- the values -/
  v : Fin 128 → ℕ → ℝ

/-- The score of key `K` for column `c` of the tile. -/
def Vals.sc (v : Vals) (c : Fin 2048) (K : ℕ) : ℝ := (∑ d : Fin 128, v.k K d * v.q d c) + (v.g K 0 + v.g K 1 + v.g K 2)

/-- The logit of key `K`, less the start `r₀` of the tile's own first block. -/
def Vals.L (v : Vals) (n : ℕ) (c : Fin 2048) (K : ℕ) : ℝ := v.sc c K + (v.r (K / 512) - v.r n)

/-- What row `d` of the accumulator weighs: a coordinate of the values, or one. -/
def Vals.w (v : Vals) (d : Fin 144) (K : ℕ) : ℝ := if h : d.val < 128 then v.v ⟨d.val, h⟩ K else 1

/-- A block's scores for one query, masked past it, and their maximum, which is real. -/
def Pend (v : Vals) (b Q : ℕ) (c : Fin 2048) (S : Fin 512 → EReal) (C : EReal) : Prop :=
  (∀ kk : Fin 512, S kk = if 512 * b + kk.val ≤ Q then (v.sc c (512 * b + kk.val) : EReal) else ⊥) ∧ ∃ γ : ℝ, C = γ

/-- Keys and gate pieces of block `b`. -/
def IsBlk (v : Vals) (b : ℕ) (kx gx : Vec Ideal S1x512x128 .bf16) : Prop :=
  ∀ (kk : Fin 512) (d : Fin 128), kx (ix3 0 kk d) = (v.k (512 * b + kk.val) d : EReal) ∧ gx (ix3 0 kk d) = (v.g (512 * b + kk.val) d : EReal)

/-- Values of block `b`. -/
def IsVal (v : Vals) (b : ℕ) (vt : Vec Ideal S1x128x512 .bf16) : Prop :=
  ∀ (d : Fin 128) (kk : Fin 512), vt (ix3 0 d kk) = (v.v d (512 * b + kk.val) : EReal)

/-- A small word read with its sign is the number it holds. -/
theorem toInt_small (a : ℕ) (ha : a < 16384) : (BitVec.ofNat 32 a).toInt = a := by
  have e : (BitVec.ofNat 32 a).toNat = a := by rw [BitVec.toNat_ofNat]; exact Nat.mod_eq_of_lt (by omega)
  rw [BitVec.toInt_eq_toNat_of_lt (by omega), e]

/-- Words compared as the numbers they hold. -/
theorem mask_le {α : Type} (a b : ℕ) (ha : a < 16384) (hb : b < 16384) (x y : α) :
    Scalar.select (IntOp.cmpi CmpIPredicate.sle (BitVec.ofNat 32 a) (BitVec.ofNat 32 b)) x y = if a ≤ b then x else y := by
  have h1 : (BitVec.ofNat 32 a).toInt = a := toInt_small _ (by omega)
  have h2 : (BitVec.ofNat 32 b).toInt = b := toInt_small _ (by omega)
  simp only [Scalar.select, IntOp.cmpi, BitVec.sle, h1, h2]
  by_cases h : a ≤ b <;> simp [h]

/-- The same of a strict comparison with three. -/
theorem mask_lt {α : Type} (a : ℕ) (ha : a < 2048) (x y : α) :
    Scalar.select (IntOp.cmpi CmpIPredicate.slt (BitVec.ofNat 32 a) 3#32) x y = if a < 3 then x else y := by
  have h1 : (BitVec.ofNat 32 a).toInt = a := toInt_small _ (by omega)
  have h2 : (3#32).toInt = 3 := by decide
  simp only [Scalar.select, IntOp.cmpi, BitVec.slt, h1, h2]
  by_cases h : a < 3 <;> simp [h]

/-- The word of minus infinity. -/
theorem ofBits_ninf : Ideal.ofBits .f32 0xFF800000#32 = ⊥ := by simp [Ideal.ofBits, Ideal.ieee]

variable (i : grid0.Coords) (v : Vals) (x3 : Vec Ideal S1x128x2048 .bf16)

/-- The first 128 rows are the queries. -/
theorem qq_lo (hq : ∀ d c, x3 (ix3 0 d c) = (v.q d c : EReal)) (x : Fin 128) (c : Fin 2048) (p : x.val < 256) :
    qq x3 (ix2 ⟨x.val, p⟩ c) = (v.q x c : EReal) := by
  rw [← hq]
  unfold qq
  generalize hX : View.ld (Val := Elt Ideal) x3 _ = X
  have e : X (ix3 0 x c) = x3 (ix3 0 x c) := by
    rw [← hX, View.ld_apply]
    refine congrArg x3 (funext fun a => Fin.ext ?_)
    match a with
    | ⟨0, _⟩ => rfl
    | ⟨1, _⟩ => show 0 + 1 * x.val = x.val; omega
    | ⟨2, _⟩ => show 0 + 1 * c.val = c.val; omega
  rw [← e]
  pointwise [k0_pay69]

/-- The other 128 rows: three ones, then zeros. -/
theorem qq_hi (x : Fin 128) (c : Fin 2048) (p : 128 + x.val < 256) :
    qq x3 (ix2 ⟨128 + x.val, p⟩ c) = if x.val < 3 then (1 : EReal) else 0 := by
  unfold qq
  generalize View.ld (Val := Elt Ideal) x3 _ = X
  have := x.isLt
  rw [← mask_lt x.val (by omega)]
  pointwise [k0_pay69]

/-- A row of keys and gate pieces against the queries' column is the score. -/
theorem dot_sc (hq : ∀ d c, x3 (ix3 0 d c) = (v.q d c : EReal)) (b : ℕ) (kx gx : Vec Ideal S1x512x128 .bf16) (hb : IsBlk v b kx gx)
    (kk : Fin 512) (c : Fin 2048) (p1 : ∀ x : Fin 128, x.val < 256) (p2 : ∀ x : Fin 128, 128 + x.val < 256) :
    (∑ x : Fin 128, kx (ix3 0 kk x) * qq x3 (ix2 ⟨x.val, p1 x⟩ c)) + ∑ x : Fin 128, gx (ix3 0 kk x) * qq x3 (ix2 ⟨128 + x.val, p2 x⟩ c)
      = (v.sc c (512 * b + kk.val) : EReal) := by
  simp only [qq_lo v x3 hq, qq_hi, fun d => (hb kk d).1, fun d => (hb kk d).2, ← EReal.coe_mul]
  rw [← coe_sum]
  have e : (∑ x : Fin 128, (v.g (512 * b + kk.val) x : EReal) * (if x.val < 3 then (1 : EReal) else 0))
      = ((v.g (512 * b + kk.val) 0 + v.g (512 * b + kk.val) 1 + v.g (512 * b + kk.val) 2 : ℝ) : EReal) := by
    have : ∀ x : Fin 128, (v.g (512 * b + kk.val) x : EReal) * (if x.val < 3 then (1 : EReal) else 0)
        = ((if x.val < 3 then v.g (512 * b + kk.val) x else 0 : ℝ) : EReal) := by
      intro x; split_ifs <;> simp
    simp only [this]
    rw [← coe_sum]
    refine congrArg _ ?_
    rw [Fin.sum_univ_add (a := 3) (b := 125) (fun x : Fin (3 + 125) => if x.val < 3 then v.g (512 * b + kk.val) x else 0), Fin.sum_univ_three]
    have z : ∑ j : Fin 125, (if (Fin.natAdd 3 j : Fin (3 + 125)).val < 3 then v.g (512 * b + kk.val) (Fin.natAdd 3 j) else 0) = 0 :=
      Finset.sum_eq_zero fun j _ => if_neg (by show ¬ 3 + j.val < 3; omega)
    rw [z, add_zero]
    rfl
  rw [e, ← EReal.coe_add]
  rfl

/-- The largest of a block's masked scores is real, the block not past the query. -/
theorem fold_pend (b Q : ℕ) (c : Fin 2048) (S : Fin 512 → EReal) (hQ : 512 * b ≤ Q)
    (hS : ∀ kk : Fin 512, S kk = if 512 * b + kk.val ≤ Q then (v.sc c (512 * b + kk.val) : EReal) else ⊥) :
    Pend v b Q c S (Finset.univ.fold max (⊥ : EReal) S) := by
  refine ⟨hS, fold_real S (fun kk => ?_) ⟨0, by decide⟩ ⟨_, (hS _).trans (if_pos (by simpa using hQ))⟩⟩
  rw [hS kk]; split_ifs
  · exact Or.inr ⟨_, rfl⟩
  · exact Or.inl rfl

variable (hq : ∀ d c, x3 (ix3 0 d c) = (v.q d c : EReal))
include hq

/-- A block before the tile. -/
theorem pend_full (b Q : ℕ) (c : Fin 2048) (hQ : 512 * b + 511 ≤ Q) (kx gx : Vec Ideal S1x512x128 .bf16) (hb : IsBlk v b kx gx) :
    Pend v b Q c (fun kk => k0_pay3 (qq x3) kx gx (ix2 kk c)) (k0_pay4 (qq x3) kx gx (ix3 0 0 c)) := by
  have e2 : ∀ kk : Fin 512, k0_pay2 (qq x3) kx gx (ix2 kk c) = (v.sc c (512 * b + kk.val) : EReal) := by
    intro kk
    rw [← dot_sc v x3 hq b kx gx hb kk c (fun x => by omega) (fun x => by omega)]
    pointwise [k0_pay2]
  have eC : k0_pay4 (qq x3) kx gx (ix3 0 0 c) = Finset.univ.fold max (⊥ : EReal) (fun kk : Fin 512 => k0_pay3 (qq x3) kx gx (ix2 kk c)) := by
    have e3 : ∀ kk : Fin 512, k0_pay3 (qq x3) kx gx (ix2 kk c) = k0_pay2 (qq x3) kx gx (ix2 kk c) := by intro kk; pointwise [k0_pay3]
    simp only [e3]
    rw [← ofBits_ninf]
    pointwise [k0_pay4]
  rw [eC]
  refine fold_pend v b Q c _ (by omega) fun kk => ?_
  have := kk.isLt
  rw [if_pos (by omega), ← e2 kk]
  pointwise [k0_pay3]

/-- Diagonal block 3, whose queries start at column 1536. -/
theorem pend_d3 (n : ℕ) (c : Fin 512) (p : 1536 + c.val < 2048) (kx gx : Vec Ideal S1x512x128 .bf16) (hb : IsBlk v (4 * n + 3) kx gx) :
    Pend v (4 * n + 3) (2048 * n + (1536 + c.val)) ⟨1536 + c.val, p⟩ (fun kk => k0_pay75 (qq x3) kx gx (ix2 kk c)) (k0_pay76 (qq x3) kx gx (ix3 0 0 c)) := by
  have e2 : ∀ kk : Fin 512, k0_pay74 (qq x3) kx gx (ix2 kk c)
      = if kk.val ≤ c.val then (v.sc ⟨1536 + c.val, p⟩ (512 * (4 * n + 3) + kk.val) : EReal) else ⊥ := by
    intro kk
    rw [← dot_sc v x3 hq (4 * n + 3) kx gx hb kk ⟨1536 + c.val, p⟩ (fun x => by omega) (fun x => by omega), ← ofBits_ninf,
      ← mask_le kk.val c.val (by omega) (by omega)]
    pointwise [k0_pay74]
  have e3 : ∀ kk : Fin 512, k0_pay75 (qq x3) kx gx (ix2 kk c) = k0_pay74 (qq x3) kx gx (ix2 kk c) := by intro kk; pointwise [k0_pay75]
  have eC : k0_pay76 (qq x3) kx gx (ix3 0 0 c) = Finset.univ.fold max (⊥ : EReal) (fun kk : Fin 512 => k0_pay75 (qq x3) kx gx (ix2 kk c)) := by
    simp only [e3]
    rw [← ofBits_ninf]
    pointwise [k0_pay76]
  rw [eC]
  refine fold_pend v _ _ _ _ (by omega) fun kk => ?_
  rw [e3, e2]
  by_cases h : kk.val ≤ c.val
  · rw [if_pos h, if_pos (by omega)]
  · rw [if_neg h, if_neg (by omega)]

/-- Diagonal block 1, whose queries start at column 512. -/
theorem pend_d1 (n : ℕ) (c : Fin 1536) (p : 512 + c.val < 2048) (kx gx : Vec Ideal S1x512x128 .bf16) (hb : IsBlk v (4 * n + 1) kx gx) :
    Pend v (4 * n + 1) (2048 * n + (512 + c.val)) ⟨512 + c.val, p⟩ (fun kk => k0_pay79 (qq x3) (k0_pay77 kx) gx (ix2 kk c)) (k0_pay80 (qq x3) (k0_pay77 kx) gx (ix3 0 0 c)) := by
  have e2 : ∀ kk : Fin 512, k0_pay78 (qq x3) (k0_pay77 kx) gx (ix2 kk c)
      = if kk.val ≤ c.val then (v.sc ⟨512 + c.val, p⟩ (512 * (4 * n + 1) + kk.val) : EReal) else ⊥ := by
    intro kk
    rw [← dot_sc v x3 hq (4 * n + 1) kx gx hb kk ⟨512 + c.val, p⟩ (fun x => by omega) (fun x => by omega), ← ofBits_ninf,
      ← mask_le kk.val c.val (by omega) (by omega)]
    pointwise [k0_pay78, k0_pay77]
  have e3 : ∀ kk : Fin 512, k0_pay79 (qq x3) (k0_pay77 kx) gx (ix2 kk c) = k0_pay78 (qq x3) (k0_pay77 kx) gx (ix2 kk c) := by intro kk; pointwise [k0_pay79]
  have eC : k0_pay80 (qq x3) (k0_pay77 kx) gx (ix3 0 0 c) = Finset.univ.fold max (⊥ : EReal) (fun kk : Fin 512 => k0_pay79 (qq x3) (k0_pay77 kx) gx (ix2 kk c)) := by
    simp only [e3]
    rw [← ofBits_ninf]
    pointwise [k0_pay80]
  rw [eC]
  refine fold_pend v _ _ _ _ (by omega) fun kk => ?_
  rw [e3, e2]
  by_cases h : kk.val ≤ c.val
  · rw [if_pos h, if_pos (by omega)]
  · rw [if_neg h, if_neg (by omega)]

/-- Diagonal block 2, whose queries start at column 1024. -/
theorem pend_d2 (n : ℕ) (c : Fin 1024) (p : 1024 + c.val < 2048) (kx gx : Vec Ideal S1x512x128 .bf16) (hb : IsBlk v (4 * n + 2) kx gx) :
    Pend v (4 * n + 2) (2048 * n + (1024 + c.val)) ⟨1024 + c.val, p⟩ (fun kk => k0_pay100 (qq x3) kx gx (ix2 kk c)) (k0_pay101 (qq x3) kx gx (ix3 0 0 c)) := by
  have e2 : ∀ kk : Fin 512, k0_pay99 (qq x3) kx gx (ix2 kk c)
      = if kk.val ≤ c.val then (v.sc ⟨1024 + c.val, p⟩ (512 * (4 * n + 2) + kk.val) : EReal) else ⊥ := by
    intro kk
    rw [← dot_sc v x3 hq (4 * n + 2) kx gx hb kk ⟨1024 + c.val, p⟩ (fun x => by omega) (fun x => by omega), ← ofBits_ninf,
      ← mask_le kk.val c.val (by omega) (by omega)]
    pointwise [k0_pay99]
  have e3 : ∀ kk : Fin 512, k0_pay100 (qq x3) kx gx (ix2 kk c) = k0_pay99 (qq x3) kx gx (ix2 kk c) := by intro kk; pointwise [k0_pay100]
  have eC : k0_pay101 (qq x3) kx gx (ix3 0 0 c) = Finset.univ.fold max (⊥ : EReal) (fun kk : Fin 512 => k0_pay100 (qq x3) kx gx (ix2 kk c)) := by
    simp only [e3]
    rw [← ofBits_ninf]
    pointwise [k0_pay101]
  rw [eC]
  refine fold_pend v _ _ _ _ (by omega) fun kk => ?_
  rw [e3, e2]
  by_cases h : kk.val ≤ c.val
  · rw [if_pos h, if_pos (by omega)]
  · rw [if_neg h, if_neg (by omega)]

/-- Diagonal block 0, whose queries start at column 0. -/
theorem pend_d0 (n : ℕ) (c : Fin 2048) (kx gx : Vec Ideal S1x512x128 .bf16) (hb : IsBlk v (4 * n) kx gx) :
    Pend v (4 * n) (2048 * n + c.val) c (fun kk => k0_pay88 (qq x3) kx gx (ix2 kk c)) (k0_pay90 (k0_pay89 (qq x3) kx gx) (ix3 0 0 c)) := by
  have e2 : ∀ kk : Fin 512, k0_pay87 (qq x3) kx gx (ix2 kk c)
      = if kk.val ≤ c.val then (v.sc c (512 * (4 * n) + kk.val) : EReal) else ⊥ := by
    intro kk
    rw [← dot_sc v x3 hq (4 * n) kx gx hb kk c (fun x => by omega) (fun x => by omega), ← ofBits_ninf,
      ← mask_le kk.val c.val (by omega) (by omega)]
    pointwise [k0_pay87]
  have e3 : ∀ kk : Fin 512, k0_pay88 (qq x3) kx gx (ix2 kk c) = k0_pay87 (qq x3) kx gx (ix2 kk c) := by intro kk; pointwise [k0_pay88]
  have eC : k0_pay90 (k0_pay89 (qq x3) kx gx) (ix3 0 0 c) = Finset.univ.fold max (⊥ : EReal) (fun kk : Fin 512 => k0_pay88 (qq x3) kx gx (ix2 kk c)) := by
    simp only [e3]
    rw [← ofBits_ninf]
    pointwise [k0_pay90, k0_pay89]
  rw [eC]
  refine fold_pend v _ _ _ _ (by omega) fun kk => ?_
  rw [e3, e2]
  by_cases h : kk.val ≤ c.val
  · rw [if_pos h, if_pos (by omega)]
  · rw [if_neg h, if_neg (by omega)]

omit hq

/-- A block folded into one row of one query's running softmax. -/
theorem fold_at (n : ℕ) (c : Fin 2048) (d : Fin 144) (Q b : ℕ) (P : Finset ℕ) (M A C : EReal) (S V : Fin 512 → EReal) (rb rq : EReal)
    (h : Run (v.L n c) (v.w d) Q P M A) (hb : b ∉ P) (hp : Pend v b Q c S C) (hrb : rb = (v.r b : EReal)) (hrq : rq = (v.r n : EReal))
    (hV : ∀ kk : Fin 512, V kk = (v.w d (512 * b + kk.val) : EReal)) :
    Run (v.L n c) (v.w d) Q (insert b P) (max M (C + (rb - rq)))
      (Ideal.exp2 (M - max M (C + (rb - rq))) * A + ∑ kk : Fin 512, V kk * Ideal.exp2 (S kk - (max M (C + (rb - rq)) - (rb - rq)))) := by
  obtain ⟨hS, γ, rfl⟩ := hp
  subst hrb hrq
  rw [← EReal.coe_sub]
  refine h.step b hb γ (v.r b - v.r n) S V (fun kk => ?_) hV
  rw [hS kk]
  have e : (512 * b + kk.val) / 512 = b := by omega
  unfold Vals.L
  rw [e]
  split_ifs
  · congr 1; ring
  · rfl

/-- What the values and the ones under them weigh. -/
theorem val_w (b : ℕ) (vt : Vec Ideal S1x128x512 .bf16) (hv : IsVal v b vt) (d : Fin 144) (kk : Fin 512) :
    (if h : d.val < 128 then vt (ix3 0 ⟨d.val, h⟩ kk) else (1 : EReal)) = (v.w d (512 * b + kk.val) : EReal) := by
  unfold Vals.w
  split_ifs with h
  · exact hv _ _
  · simp

/-- One step of the loop. -/
theorem step_one (n : ℕ) (c : Fin 2048) (c' : Fin 2048) (d : Fin 144) (Q b : ℕ) (P : Finset ℕ) (rb rq : Elt Ideal .f32)
    (M : Vec Ideal S1x2048 .f32) (C : Vec Ideal S1x1x2048 .f32) (S : Vec Ideal S512x2048 .f32) (vt : Vec Ideal S1x128x512 .bf16) (A : Vec Ideal S144x2048 .f32)
    (h : Run (v.L n c') (v.w d) Q P (M (ix2 0 c)) (A (ix2 d c))) (hb : b ∉ P)
    (hp : Pend v b Q c' (fun kk => S (ix2 kk c)) (C (ix3 0 0 c))) (hrb : rb = (v.r b : EReal)) (hrq : rq = (v.r n : EReal)) (hv : IsVal v b vt) :
    Run (v.L n c') (v.w d) Q (insert b P) ((k0_pay8 (k0_pay6 rq rb M C)) (ix2 0 c)) ((k0_pay7 (k0_pay70 (F := Ideal)) (k0_pay5 rq rb) M (k0_pay6 rq rb M C) S vt A) (ix2 d c)) := by
  have e := fold_at v n c' d Q b P _ _ _ _ _ rb rq h hb hp hrb hrq (val_w v b vt hv d)
  have eM : (k0_pay8 (k0_pay6 rq rb M C)) (ix2 0 c) = max (M (ix2 0 c)) (C (ix3 0 0 c) + (rb - rq)) := by pointwise [k0_pay8, k0_pay6, k0_pay5]
  have eA : (k0_pay7 (k0_pay70 (F := Ideal)) (k0_pay5 rq rb) M (k0_pay6 rq rb M C) S vt A) (ix2 d c) = Ideal.exp2 (M (ix2 0 c) - max (M (ix2 0 c)) (C (ix3 0 0 c) + (rb - rq))) * A (ix2 d c)
      + ∑ kk : Fin 512, (if h : d.val < 128 then vt (ix3 0 ⟨d.val, h⟩ kk) else (1 : EReal))
        * Ideal.exp2 (S (ix2 kk c) - (max (M (ix2 0 c)) (C (ix3 0 0 c) + (rb - rq)) - (rb - rq))) := by
    pointwise [k0_pay7, k0_pay6, k0_pay5, k0_pay70]
    rfl
  rw [eM, eA]
  exact e

/-- Diagonal block 3 folded in. -/
theorem step_d3 (n : ℕ) (c : Fin 512) (c' : Fin 2048) (d : Fin 144) (Q b : ℕ) (P : Finset ℕ) (rb rq : Elt Ideal .f32)
    (M : Vec Ideal S1x512 .f32) (C : Vec Ideal S1x1x512 .f32) (S : Vec Ideal S512x512 .f32) (vt : Vec Ideal S1x128x512 .bf16) (A : Vec Ideal S144x512 .f32)
    (h : Run (v.L n c') (v.w d) Q P (M (ix2 0 c)) (A (ix2 d c))) (hb : b ∉ P)
    (hp : Pend v b Q c' (fun kk => S (ix2 kk c)) (C (ix3 0 0 c))) (hrb : rb = (v.r b : EReal)) (hrq : rq = (v.r n : EReal)) (hv : IsVal v b vt) :
    Run (v.L n c') (v.w d) Q (insert b P) ((k0_pay86 (k0_pay82 rq rb M C)) (ix2 0 c)) ((k0_pay85 (k0_pay70 (F := Ideal)) (k0_pay83 rq rb M C) (k0_pay84 rq rb M C S) vt A) (ix2 d c)) := by
  have e := fold_at v n c' d Q b P _ _ _ _ _ rb rq h hb hp hrb hrq (val_w v b vt hv d)
  have eM : (k0_pay86 (k0_pay82 rq rb M C)) (ix2 0 c) = max (M (ix2 0 c)) (C (ix3 0 0 c) + (rb - rq)) := by pointwise [k0_pay86, k0_pay82, k0_pay81]
  have eA : (k0_pay85 (k0_pay70 (F := Ideal)) (k0_pay83 rq rb M C) (k0_pay84 rq rb M C S) vt A) (ix2 d c) = Ideal.exp2 (M (ix2 0 c) - max (M (ix2 0 c)) (C (ix3 0 0 c) + (rb - rq))) * A (ix2 d c)
      + ∑ kk : Fin 512, (if h : d.val < 128 then vt (ix3 0 ⟨d.val, h⟩ kk) else (1 : EReal))
        * Ideal.exp2 (S (ix2 kk c) - (max (M (ix2 0 c)) (C (ix3 0 0 c) + (rb - rq)) - (rb - rq))) := by
    pointwise [k0_pay85, k0_pay84, k0_pay83, k0_pay82, k0_pay81, k0_pay70]
    rfl
  rw [eM, eA]
  exact e

/-- Diagonal block 1 folded in. -/
theorem step_d1 (n : ℕ) (c : Fin 1536) (c' : Fin 2048) (d : Fin 144) (Q b : ℕ) (P : Finset ℕ) (rb rq : Elt Ideal .f32)
    (M : Vec Ideal S1x1536 .f32) (C : Vec Ideal S1x1x1536 .f32) (S : Vec Ideal S512x1536 .f32) (vt : Vec Ideal S1x128x512 .bf16) (A : Vec Ideal S144x1536 .f32)
    (h : Run (v.L n c') (v.w d) Q P (M (ix2 0 c)) (A (ix2 d c))) (hb : b ∉ P)
    (hp : Pend v b Q c' (fun kk => S (ix2 kk c)) (C (ix3 0 0 c))) (hrb : rb = (v.r b : EReal)) (hrq : rq = (v.r n : EReal)) (hv : IsVal v b vt) :
    Run (v.L n c') (v.w d) Q (insert b P) ((k0_pay94 rq rb M C) (ix2 0 c)) ((k0_pay93 (k0_pay70 (F := Ideal)) rq rb M C S vt A) (ix2 d c)) := by
  have e := fold_at v n c' d Q b P _ _ _ _ _ rb rq h hb hp hrb hrq (val_w v b vt hv d)
  have eM : (k0_pay94 rq rb M C) (ix2 0 c) = max (M (ix2 0 c)) (C (ix3 0 0 c) + (rb - rq)) := by pointwise [k0_pay94, k0_pay92, k0_pay91]
  have eA : (k0_pay93 (k0_pay70 (F := Ideal)) rq rb M C S vt A) (ix2 d c) = Ideal.exp2 (M (ix2 0 c) - max (M (ix2 0 c)) (C (ix3 0 0 c) + (rb - rq))) * A (ix2 d c)
      + ∑ kk : Fin 512, (if h : d.val < 128 then vt (ix3 0 ⟨d.val, h⟩ kk) else (1 : EReal))
        * Ideal.exp2 (S (ix2 kk c) - (max (M (ix2 0 c)) (C (ix3 0 0 c) + (rb - rq)) - (rb - rq))) := by
    pointwise [k0_pay93, k0_pay92, k0_pay91, k0_pay70]
    rfl
  rw [eM, eA]
  exact e

/-- The block still pending after the loop folded in. -/
theorem step_p (n : ℕ) (c : Fin 2048) (c' : Fin 2048) (d : Fin 144) (Q b : ℕ) (P : Finset ℕ) (rb rq : Elt Ideal .f32)
    (M : Vec Ideal S1x2048 .f32) (C : Vec Ideal S1x1x2048 .f32) (S : Vec Ideal S512x2048 .f32) (vt : Vec Ideal S1x128x512 .bf16) (A : Vec Ideal S144x2048 .f32)
    (h : Run (v.L n c') (v.w d) Q P (M (ix2 0 c)) (A (ix2 d c))) (hb : b ∉ P)
    (hp : Pend v b Q c' (fun kk => S (ix2 kk c)) (C (ix3 0 0 c))) (hrb : rb = (v.r b : EReal)) (hrq : rq = (v.r n : EReal)) (hv : IsVal v b vt) :
    Run (v.L n c') (v.w d) Q (insert b P) ((k0_pay105 rq rb M C) (ix2 0 c)) ((k0_pay104 (k0_pay70 (F := Ideal)) rq rb M C S vt A) (ix2 d c)) := by
  have e := fold_at v n c' d Q b P _ _ _ _ _ rb rq h hb hp hrb hrq (val_w v b vt hv d)
  have eM : (k0_pay105 rq rb M C) (ix2 0 c) = max (M (ix2 0 c)) (C (ix3 0 0 c) + (rb - rq)) := by pointwise [k0_pay105, k0_pay103, k0_pay102]
  have eA : (k0_pay104 (k0_pay70 (F := Ideal)) rq rb M C S vt A) (ix2 d c) = Ideal.exp2 (M (ix2 0 c) - max (M (ix2 0 c)) (C (ix3 0 0 c) + (rb - rq))) * A (ix2 d c)
      + ∑ kk : Fin 512, (if h : d.val < 128 then vt (ix3 0 ⟨d.val, h⟩ kk) else (1 : EReal))
        * Ideal.exp2 (S (ix2 kk c) - (max (M (ix2 0 c)) (C (ix3 0 0 c) + (rb - rq)) - (rb - rq))) := by
    pointwise [k0_pay104, k0_pay103, k0_pay102, k0_pay70]
    rfl
  rw [eM, eA]
  exact e

/-- Diagonal block 2 folded in. -/
theorem step_d2 (n : ℕ) (c : Fin 1024) (c' : Fin 2048) (d : Fin 144) (Q b : ℕ) (P : Finset ℕ) (rb rq : Elt Ideal .f32)
    (M : Vec Ideal S1x1024 .f32) (C : Vec Ideal S1x1x1024 .f32) (S : Vec Ideal S512x1024 .f32) (vt : Vec Ideal S1x128x512 .bf16) (A : Vec Ideal S144x1024 .f32)
    (h : Run (v.L n c') (v.w d) Q P (M (ix2 0 c)) (A (ix2 d c))) (hb : b ∉ P)
    (hp : Pend v b Q c' (fun kk => S (ix2 kk c)) (C (ix3 0 0 c))) (hrb : rb = (v.r b : EReal)) (hrq : rq = (v.r n : EReal)) (hv : IsVal v b vt) :
    Run (v.L n c') (v.w d) Q (insert b P) ((k0_pay107 rq rb M C) (ix2 0 c)) ((k0_pay108 (k0_pay70 (F := Ideal)) rq rb M C S vt A) (ix2 d c)) := by
  have e := fold_at v n c' d Q b P _ _ _ _ _ rb rq h hb hp hrb hrq (val_w v b vt hv d)
  have eM : (k0_pay107 rq rb M C) (ix2 0 c) = max (M (ix2 0 c)) (C (ix3 0 0 c) + (rb - rq)) := by pointwise [k0_pay107, k0_pay106]
  have eA : (k0_pay108 (k0_pay70 (F := Ideal)) rq rb M C S vt A) (ix2 d c) = Ideal.exp2 (M (ix2 0 c) - max (M (ix2 0 c)) (C (ix3 0 0 c) + (rb - rq))) * A (ix2 d c)
      + ∑ kk : Fin 512, (if h : d.val < 128 then vt (ix3 0 ⟨d.val, h⟩ kk) else (1 : EReal))
        * Ideal.exp2 (S (ix2 kk c) - (max (M (ix2 0 c)) (C (ix3 0 0 c) + (rb - rq)) - (rb - rq))) := by
    pointwise [k0_pay108, k0_pay107, k0_pay106, k0_pay70]
    rfl
  rw [eM, eA]
  exact e

/-- The last quotient, transposed. -/
theorem quot_apply (A : Vec Ideal S128x2048 .f32) (B : Vec Ideal S1x2048 .f32) (c : Fin 2048) (d : Fin 128) :
    k0_pay1 (k0_pay110 A B) (ix2 c d) = Ideal.div (A (ix2 d c)) (B (ix2 0 c)) := by
  pointwise [k0_pay1, k0_pay110]

end Cert.KernelIdeal.Att

end
-- ==== Proof.AttValue.lean ====
/- What one grid point of the attention writes: for each of its 2048 queries the softmax average of the values. -/
module

public import proofs.«01_k».proof.Proof.AttPay

@[expose] public section

set_option maxRecDepth 16384

noncomputable section

namespace Cert.KernelIdeal.Att

open Idealize.ShloMosaic Idealize.ShloMosaic.VecWindow Cert.KernelIdeal Cert.KernelIdeal.Gen Cert.Att

/-! ## Where the loads sit -/

theorem trips_eq : ∀ i : grid0.Coords, (k0_t1_loop i).trips = (i 1).val := by decide +kernel
theorem off6_eq : ∀ (i : grid0.Coords) (k : Fin (k0_t1_loop i).trips), k0_off6 i k = ![(i 0).val, if k.val = 0 then 4 * (i 1).val else 4 * k.val - 1] := by
  decide +kernel
theorem off7_eq : ∀ (i : grid0.Coords) (k : Fin (k0_t1_loop i).trips), k0_off7 i k = ![0, 0, 512 * (if k.val = 0 then 4 * (i 1).val else 4 * k.val - 1)] := by
  decide +kernel
theorem off15_eq : ∀ i : grid0.Coords, k0_off15 i = ![(i 0).val, if (i 1).val = 0 then 4 * (i 1).val else 4 * (i 1).val - 1] := by decide +kernel
theorem off16_eq : ∀ i : grid0.Coords, k0_off16 i = ![0, 0, 512 * (if (i 1).val = 0 then 4 * (i 1).val else 4 * (i 1).val - 1)] := by decide +kernel

/-- The arrays a grid point reads hold the reals `v`. -/
structure Of (i : grid0.Coords) (v : Vals) (x2 : Vec Ideal S8x32 .f32) (x3 : Vec Ideal S1x128x2048 .bf16) (x4 x5 : Vec Ideal S1x16384x128 .bf16)
    (x6 : Vec Ideal S1x128x16384 .bf16) : Prop where
  /-- the head's row of block starts -/
  r : ∀ (b : ℕ) (h : b < 32), x2 (ix2 (⟨(i 0).val, (i 0).isLt⟩ : Fin 8) ⟨b, h⟩) = (v.r b : EReal)
  /-- the queries -/
  q : ∀ (d : Fin 128) (c : Fin 2048), x3 (ix3 0 d c) = (v.q d c : EReal)
  /-- the keys -/
  k : ∀ (K : ℕ) (h : K < 16384) (d : Fin 128), x4 (ix3 0 ⟨K, h⟩ d) = (v.k K d : EReal)
  /-- the gate's pieces -/
  g : ∀ (K : ℕ) (h : K < 16384) (d : Fin 128), x5 (ix3 0 ⟨K, h⟩ d) = (v.g K d : EReal)
  /-- the values -/
  v : ∀ (d : Fin 128) (K : ℕ) (h : K < 16384), x6 (ix3 0 d ⟨K, h⟩) = (v.v d K : EReal)

variable {i : grid0.Coords} {v : Vals} {x2 : Vec Ideal S8x32 .f32} {x3 : Vec Ideal S1x128x2048 .bf16} {x4 x5 : Vec Ideal S1x16384x128 .bf16}
  {x6 : Vec Ideal S1x128x16384 .bf16} (h : Of i v x2 x3 x4 x5 x6)
include h

/-- A word of the head's row. -/
theorem Of.word (off : Fin 2 → ℕ) (inb) (b : ℕ) (e : off = ![(i 0).val, b]) (hb : b < 32) :
    View.ld (Val := Elt Ideal) x2 (Rect.unit (s := S8x32) off S1x1.size inb) (Shape.Idx.first pos11) = (v.r b : EReal) := by
  subst e
  rw [← h.r b hb, View.ld_apply]
  refine congrArg x2 (funext fun a => Fin.ext ?_)
  match a with
  | ⟨0, _⟩ => rfl
  | ⟨1, _⟩ => rfl

/-- A block of keys and gate pieces. -/
theorem Of.blk (off : Fin 3 → ℕ) (inb inb') (b : ℕ) (e : off = ![0, 512 * b, 0]) (hb : b < 32) :
    IsBlk v b (View.ld (Val := Elt Ideal) x4 (Rect.unit (s := S1x16384x128) off S1x512x128.size inb))
      (View.ld (Val := Elt Ideal) x5 (Rect.unit (s := S1x16384x128) off S1x512x128.size inb')) := by
  subst e
  intro kk d
  have hk := kk.isLt
  have e : ∀ inb, (Rect.unit (s := S1x16384x128) ![0, 512 * b, 0] S1x512x128.size inb).idx (ix3 0 kk d) = ix3 0 ⟨512 * b + kk.val, by omega⟩ d := by
    intro inb
    refine funext fun a => Fin.ext ?_
    match a with
    | ⟨0, _⟩ => rfl
    | ⟨1, _⟩ => show 512 * b + 1 * kk.val = 512 * b + kk.val; omega
    | ⟨2, _⟩ => show 0 + 1 * d.val = d.val; omega
  rw [View.ld_apply, View.ld_apply, e]
  exact ⟨h.k _ _ _, h.g _ _ _⟩

/-- A block of values. -/
theorem Of.val (off : Fin 3 → ℕ) (inb) (b : ℕ) (e : off = ![0, 0, 512 * b]) (hb : b < 32) :
    IsVal v b (View.ld (Val := Elt Ideal) x6 (Rect.unit (s := S1x128x16384) off S1x128x512.size inb)) := by
  subst e
  intro d kk
  have hk := kk.isLt
  rw [View.ld_apply, ← h.v _ _ (by omega)]
  refine congrArg x6 (funext fun a => Fin.ext ?_)
  match a with
  | ⟨0, _⟩ => rfl
  | ⟨1, _⟩ => show 0 + 1 * d.val = d.val; omega
  | ⟨2, _⟩ => show 512 * b + 1 * kk.val = 512 * b + kk.val; omega

theorem Of.rq : rq i x2 = (v.r (4 * (i 1).val) : EReal) := by
  have := (i 1).isLt
  exact h.word _ _ _ (k0_off1_eq i) (by have : (i 1).val < 8 := this; omega)

theorem Of.rd (r : Fin 3) : rd i x2 r = (v.r (4 * (i 1).val + (r.val + 1)) : EReal) := by
  have : (i 1).val < 8 := (i 1).isLt
  exact h.word _ _ _ (k0_off3_eq i r) (by omega)

theorem Of.kd (r : Fin 4) : IsBlk v (4 * (i 1).val + r.val) (kd i x4 r) (kd i x5 r) := by
  have : (i 1).val < 8 := (i 1).isLt
  exact h.blk _ _ _ _ ((k0_off2_eq i r).trans (by congr 2; ring)) (by omega)

theorem Of.vd (r : Fin 3) : IsVal v (4 * (i 1).val + (r.val + 1)) (vd i x6 r) := by
  have : (i 1).val < 8 := (i 1).isLt
  exact h.val _ _ _ ((k0_off4_eq i r).trans (by congr 2; ring_nf)) (by omega)

theorem Of.kb (k : Fin (k0_t1_loop i).trips) (r : Fin 4) : IsBlk v (4 * k.val + r.val) (kb i x4 k r) (kb i x5 k r) := by
  have : (i 1).val < 8 := (i 1).isLt
  have hk : k.val < (i 1).val := k.isLt.trans_eq (trips_eq i)
  exact h.blk _ _ _ _ ((k0_off5_eq i k r).trans (by congr 2; ring)) (by omega)

omit h

/-! ## Boxes of columns -/

section
variable {α : Type} {R W w : ℕ}

/-- Inside a box of whole columns. -/
theorem put_in (x : (⟨2, ![R, W]⟩ : Shape).Idx → α) (o : ℕ) (u : (⟨2, ![R, w]⟩ : Shape).Idx → α) (d : Fin R) (c : Fin w) (p : o + c.val < W) :
    put (s := ⟨2, ![R, W]⟩) x ![0, o] ![R, w] u (ix2 d ⟨o + c.val, p⟩) = u (ix2 d c) := by
  have hin : ∀ a : Fin 2, (![0, o] : Fin 2 → ℕ) a ≤ ((ix2 d (⟨o + c.val, p⟩ : Fin W) : (⟨2, ![R, W]⟩ : Shape).Idx) a).val
      ∧ ((ix2 d (⟨o + c.val, p⟩ : Fin W) : (⟨2, ![R, W]⟩ : Shape).Idx) a).val < (![0, o] : Fin 2 → ℕ) a + (![R, w] : Fin 2 → ℕ) a := by
    intro a
    match a with
    | ⟨0, _⟩ => exact ⟨Nat.zero_le _, by show d.val < 0 + R; omega⟩
    | ⟨1, _⟩ => exact ⟨Nat.le_add_right _ _, by show o + c.val < o + w; omega⟩
  unfold put
  refine (dif_pos hin).trans (congrArg u (funext fun a => Fin.ext ?_))
  match a with
  | ⟨0, _⟩ => rfl
  | ⟨1, _⟩ => show o + c.val - o = c.val; omega

/-- Left of it. -/
theorem put_out (x : (⟨2, ![R, W]⟩ : Shape).Idx → α) (o : ℕ) (u : (⟨2, ![R, w]⟩ : Shape).Idx → α) (d : Fin R) (c : Fin W) (p : c.val < o) :
    put (s := ⟨2, ![R, W]⟩) x ![0, o] ![R, w] u (ix2 d c) = x (ix2 d c) := by
  unfold put
  refine dif_neg fun hh => ?_
  have : o ≤ c.val := (hh (1 : Fin 2)).1
  omega

/-- A box of rows and columns read. -/
theorem window_at {R' : ℕ} (x : (⟨2, ![R, W]⟩ : Shape).Idx → α) (o' o : ℕ) (inb) (d : Fin R') (c : Fin w) (p' : o' + d.val < R) (p : o + c.val < W) :
    window (s := ⟨2, ![R, W]⟩) x ![o', o] ![R', w] inb (ix2 d c) = x (ix2 ⟨o' + d.val, p'⟩ ⟨o + c.val, p⟩) := by
  unfold window
  refine congrArg x (funext fun a => Fin.ext ?_)
  match a with
  | ⟨0, _⟩ => show o' + 1 * d.val = o' + d.val; omega
  | ⟨1, _⟩ => show o + 1 * c.val = o + c.val; omega
end

/-! ## The loop -/

/-- After blocks `P` are folded in and with block `b` pending, at query `Q`, column `c`. -/
def Inv (v : Vals) (n : ℕ) (c : Fin 2048) (Q : ℕ) (P : Finset ℕ) (b : ℕ) (s : St Ideal) : Prop :=
  (∀ d : Fin 144, Run (v.L n c) (v.w d) Q P (s.M (ix2 0 c)) (s.A (ix2 d c))) ∧ Pend v b Q c (fun kk => s.S (ix2 kk c)) (s.C (ix3 0 0 c))

include h in
/-- One step folds the pending block and scores the next. -/
theorem Inv.one {c : Fin 2048} {Q b b' : ℕ} {P : Finset ℕ} {s : St Ideal} (hi : Inv v (4 * (i 1).val) c Q P b s) (hb : b ∉ P) (rk : Elt Ideal .f32)
    (hr : rk = (v.r b : EReal)) (vt : Vec Ideal S1x128x512 .bf16) (hv : IsVal v b vt) (kx gx : Vec Ideal S1x512x128 .bf16) (hk : IsBlk v b' kx gx)
    (hb' : 512 * b' + 511 ≤ Q) :
    Inv v (4 * (i 1).val) c Q (insert b P) b' (one (qq x3) (k0_pay70 (F := Ideal)) (Att.rq i x2) rk vt kx gx s) := by
  unfold Att.one
  refine ⟨fun d => ?_, ?_⟩
  · dsimp only
    exact step_one v _ c c d Q b P rk _ s.M s.C s.S vt s.A (hi.1 d) hb hi.2 hr h.rq hv
  · dsimp only
    exact pend_full v x3 h.q b' Q c hb' kx gx hk

/-- The blocks folded in after `m` trips, before diagonal block 2. -/
def Done (n m : ℕ) (P : Finset ℕ) : Prop := ∀ K, K ∈ P ↔ (K = 4 * n + 3 ∨ K = 4 * n + 1 ∨ (0 < m ∧ (K = 4 * n ∨ K < 4 * m - 1)))

include h in
theorem Inv.trip {c : Fin 2048} {P : Finset ℕ} {s : St Ideal} (k : Fin (k0_t1_loop i).trips)
    (hP : Done (i 1).val k.val P)
    (hi : Inv v (4 * (i 1).val) c (2048 * (i 1).val + c.val) P (if k.val = 0 then 4 * (i 1).val else 4 * k.val - 1) s) :
    ∃ P', Done (i 1).val (k.val + 1) P' ∧ Inv v (4 * (i 1).val) c (2048 * (i 1).val + c.val) P' (4 * (k.val + 1) - 1) (trip1 i x2 x3 x4 x5 x6 k s) := by
  have h8 : (i 1).val < 8 := (i 1).isLt
  have hk : k.val < (i 1).val := k.isLt.trans_eq (trips_eq i)
  generalize hb : (if k.val = 0 then 4 * (i 1).val else 4 * k.val - 1) = b at hi
  have hb32 : b < 32 ∧ ¬ b ∈ P := by
    rw [hP]; rw [← hb]; split_ifs <;> constructor <;> omega
  unfold Done at hP
  have i1 := hi.one h hb32.2 _ (h.word _ (k0_off6_inb i k) b (by rw [off6_eq, hb]) hb32.1) _ (h.val _ (k0_off7_inb i k) b (by rw [off7_eq, hb]) hb32.1)
    _ _ (h.kb k 0) (by show 512 * (4 * k.val + 0) + 511 ≤ _; omega)
  have i2 := i1.one h (by rw [Finset.mem_insert, hP, ← hb]; show ¬ (4 * k.val + 0 = _ ∨ _); split_ifs <;> omega)
    _ (h.word _ (k0_off8_inb i k 0) _ (k0_off8_eq i k 0) (by show 4 * k.val + 0 < 32; omega))
    _ (h.val _ (k0_off9_inb i k 0) _ ((k0_off9_eq i k 0).trans (congrArg (fun x => (![0, 0, x] : Fin 3 → ℕ)) (by show 2048 * k.val + 512 * 0 = 512 * (4 * k.val + 0); ring))) (by show 4 * k.val + 0 < 32; omega))
    _ _ (h.kb k 1) (by show 512 * (4 * k.val + 1) + 511 ≤ _; omega)
  have i3 := i2.one h (by rw [Finset.mem_insert, Finset.mem_insert, hP, ← hb]; show ¬ (4 * k.val + 1 = 4 * k.val + 0 ∨ 4 * k.val + 1 = _ ∨ _); split_ifs <;> omega)
    _ (h.word _ (k0_off8_inb i k 1) _ (k0_off8_eq i k 1) (by show 4 * k.val + 1 < 32; omega))
    _ (h.val _ (k0_off9_inb i k 1) _ ((k0_off9_eq i k 1).trans (congrArg (fun x => (![0, 0, x] : Fin 3 → ℕ)) (by show 2048 * k.val + 512 * 1 = 512 * (4 * k.val + 1); ring))) (by show 4 * k.val + 1 < 32; omega))
    _ _ (h.kb k 2) (by show 512 * (4 * k.val + 2) + 511 ≤ _; omega)
  have i4 := i3.one h (by rw [Finset.mem_insert, Finset.mem_insert, Finset.mem_insert, hP, ← hb]; show ¬ (4 * k.val + 2 = 4 * k.val + 1 ∨ 4 * k.val + 2 = 4 * k.val + 0 ∨ 4 * k.val + 2 = _ ∨ _); split_ifs <;> omega)
    _ (h.word _ (k0_off8_inb i k 2) _ (k0_off8_eq i k 2) (by show 4 * k.val + 2 < 32; omega))
    _ (h.val _ (k0_off9_inb i k 2) _ ((k0_off9_eq i k 2).trans (congrArg (fun x => (![0, 0, x] : Fin 3 → ℕ)) (by show 2048 * k.val + 512 * 2 = 512 * (4 * k.val + 2); ring))) (by show 4 * k.val + 2 < 32; omega))
    _ _ (h.kb k 3) (by show 512 * (4 * k.val + 3) + 511 ≤ _; omega)
  refine ⟨_, ?_, i4⟩
  intro K
  rw [Finset.mem_insert, Finset.mem_insert, Finset.mem_insert, Finset.mem_insert, hP, ← hb]
  show (K = 4 * k.val + 2 ∨ K = 4 * k.val + 1 ∨ K = 4 * k.val + 0 ∨ K = _ ∨ _) ↔ _
  split_ifs <;> omega

/-! ## Before the loop -/

include h in
/-- After diagonal block 3. -/
theorem after3 (c : Fin 2048) (p : c.val < 2176) (d : Fin 144) :
    Run (v.L (4 * (i 1).val) c) (v.w d) (2048 * (i 1).val + c.val) {4 * (i 1).val + 3} (M3 i x2 x3 x4 x5 (ix2 0 c)) (A3 i x2 x3 x4 x5 x6 (ix2 d ⟨c.val, p⟩)) := by
  have eM : ∀ (r : Fin 1) c, k0_pay71 (F := Ideal) (ix2 r c) = ⊥ := by intro r c; rw [← ofBits_ninf]; pointwise [k0_pay71]
  have eA : ∀ d c, k0_pay73 (k0_pay72 (F := Ideal)) (ix2 d c) = 0 := by
    intro d c; rw [← Ideal.ofBits_zero_f32]; pointwise [k0_pay73, k0_pay72]
  unfold M3 A3 m3
  by_cases hc : c.val < 1536
  · rw [put_out _ 1536 _ 0 c hc, put_out _ 1536 _ d ⟨c.val, p⟩ hc, eM, eA]
    exact (Run.empty _ _ _).skip _ (by omega)
  · obtain ⟨c', hc', rfl⟩ : ∃ (c' : Fin 512) (q : 1536 + c'.val < 2048), c = ⟨1536 + c'.val, q⟩ :=
      ⟨⟨c.val - 1536, by omega⟩, by show 1536 + (c.val - 1536) < 2048; omega, Fin.ext (by show c.val = 1536 + (c.val - 1536); omega)⟩
    rw [put_in _ 1536 _ 0 c' hc', put_in _ 1536 _ d c' p]
    refine step_d3 v _ c' ⟨1536 + c'.val, hc'⟩ d _ (4 * (i 1).val + 3) ∅ _ _ _ _ _ _ _ ?_ (by simp) (pend_d3 v x3 h.q (i 1).val c' hc' _ _ (h.kd 3)) (h.rd 2) h.rq (h.vd 2)
    rw [window_at _ 0 1536 _ 0 c' (by decide) (by omega), window_at _ 0 1536 _ d c' (by omega) (by omega), eM, eA]
    exact Run.empty _ _ _

include h in
/-- After diagonal block 1. -/
theorem after1 (c : Fin 2048) (p : c.val < 2176) (d : Fin 144) :
    Run (v.L (4 * (i 1).val) c) (v.w d) (2048 * (i 1).val + c.val) (insert (4 * (i 1).val + 1) {4 * (i 1).val + 3}) (M1 i x2 x3 x4 x5 (ix2 0 c))
      (A1 i x2 x3 x4 x5 x6 (ix2 d ⟨c.val, p⟩)) := by
  unfold M1 A1
  by_cases hc : c.val < 512
  · rw [put_out _ 512 _ 0 c hc, put_out _ 512 _ d ⟨c.val, p⟩ hc]
    exact (after3 h c p d).skip _ (by omega)
  · obtain ⟨c', hc', rfl⟩ : ∃ (c' : Fin 1536) (q : 512 + c'.val < 2048), c = ⟨512 + c'.val, q⟩ :=
      ⟨⟨c.val - 512, by omega⟩, by show 512 + (c.val - 512) < 2048; omega, Fin.ext (by show c.val = 512 + (c.val - 512); omega)⟩
    rw [put_in _ 512 _ 0 c' hc', put_in _ 512 _ d c' p]
    refine step_d1 v _ c' ⟨512 + c'.val, hc'⟩ d _ (4 * (i 1).val + 1) _ _ _ _ _ _ _ _ ?_ (by simp) (pend_d1 v x3 h.q (i 1).val c' hc' _ _ (h.kd 1)) (h.rd 0) h.rq (h.vd 0)
    rw [window_at _ 0 512 _ 0 c' (by decide) (by omega), window_at _ 0 512 _ d c' (by omega) (by omega)]
    have := after3 h ⟨512 + c'.val, hc'⟩ p d
    simpa only [Nat.zero_add] using this

include h in
/-- At the loop's entry. -/
theorem inv0 (c : Fin 2048) :
    Inv v (4 * (i 1).val) c (2048 * (i 1).val + c.val) (insert (4 * (i 1).val + 1) {4 * (i 1).val + 3}) (4 * (i 1).val) (st0 i x2 x3 x4 x5 x6) := by
  unfold st0 C0
  refine ⟨fun d => ?_, ?_⟩
  · dsimp only
    rw [window_at _ 0 0 _ d c (by omega) (by omega)]
    have := after1 h c (by omega) d
    simpa only [Nat.zero_add] using this
  · dsimp only
    exact pend_d0 v x3 h.q (i 1).val c _ _ (h.kd 0)

include h in
/-- At the loop's exit. -/
theorem inv1 (c : Fin 2048) :
    ∃ P, Done (i 1).val (i 1).val P ∧ Inv v (4 * (i 1).val) c (2048 * (i 1).val + c.val) P (if (i 1).val = 0 then 4 * (i 1).val else 4 * (i 1).val - 1) (st1 i x2 x3 x4 x5 x6) := by
  have key : ∀ m, m ≤ (k0_t1_loop i).trips → ∃ P, Done (i 1).val m P ∧
      Inv v (4 * (i 1).val) c (2048 * (i 1).val + c.val) P (if m = 0 then 4 * (i 1).val else 4 * m - 1) (trips i x2 x3 x4 x5 x6 (st0 i x2 x3 x4 x5 x6) m) := by
    intro m
    induction m with
    | zero =>
      intro _
      refine ⟨_, fun K => ?_, inv0 h c⟩
      rw [Finset.mem_insert, Finset.mem_singleton]
      omega
    | succ m ih =>
      intro hm
      obtain ⟨P, hP, hi⟩ := ih (by omega)
      obtain ⟨P', hP', hi'⟩ := Inv.trip h ⟨m, by omega⟩ hP hi
      refine ⟨P', hP', ?_⟩
      rw [if_neg (by omega), trips_succ i x2 x3 x4 x5 x6 _ ⟨m, by omega⟩]
      exact hi'
  have := key _ (le_refl _)
  unfold st1
  rwa [trips_eq] at this ⊢

/-! ## After the loop -/

include h in
/-- After the pending block. -/
theorem afterP (c : Fin 2048) :
    ∃ P, (∀ K, K ∈ P ↔ (K = 4 * (i 1).val + 3 ∨ K = 4 * (i 1).val + 1 ∨ K ≤ 4 * (i 1).val)) ∧ ∀ d : Fin 144,
      Run (v.L (4 * (i 1).val) c) (v.w d) (2048 * (i 1).val + c.val) P (Mp i x2 x3 x4 x5 x6 (ix2 0 c)) (Ap i x2 x3 x4 x5 x6 (ix2 d c)) := by
  obtain ⟨P, hP, hi⟩ := inv1 h c
  have h8 : (i 1).val < 8 := (i 1).isLt
  generalize hb : (if (i 1).val = 0 then 4 * (i 1).val else 4 * (i 1).val - 1) = b at hi
  have hb32 : b < 32 ∧ ¬ b ∈ P := by
    rw [hP]; rw [← hb]; split_ifs <;> constructor <;> omega
  refine ⟨insert b P, fun K => ?_, fun d => ?_⟩
  · rw [Finset.mem_insert, hP, ← hb]; split_ifs <;> omega
  · unfold Mp Ap
    exact step_p v _ c c d _ b P _ _ _ _ _ _ _ (hi.1 d) hb32.2 hi.2 (h.word _ (k0_off15_inb i) b (by rw [off15_eq, hb]) hb32.1) h.rq
      (h.val _ (k0_off16_inb i) b (by rw [off16_eq, hb]) hb32.1)

include h in
/-- After diagonal block 2 every key up to the query is in. -/
theorem after2 (c : Fin 2048) :
    ∃ (P : Finset ℕ) (M : EReal), (∀ K ≤ 2048 * (i 1).val + c.val, K / 512 ∈ P) ∧ ∀ d : Fin 144,
      Run (v.L (4 * (i 1).val) c) (v.w d) (2048 * (i 1).val + c.val) P M (A2 i x2 x3 x4 x5 x6 (ix2 d c)) := by
  obtain ⟨P, hP, hr⟩ := afterP h c
  by_cases hc : c.val < 1024
  · refine ⟨P, Mp i x2 x3 x4 x5 x6 (ix2 0 c), fun K hK => ?_, fun d => ?_⟩
    rotate_left
    · unfold A2
      rw [put_out _ 1024 _ d c hc]
      exact hr d
    · rw [hP]; omega
  · obtain ⟨c', hc', rfl⟩ : ∃ (c' : Fin 1024) (q : 1024 + c'.val < 2048), c = ⟨1024 + c'.val, q⟩ :=
      ⟨⟨c.val - 1024, by omega⟩, by show 1024 + (c.val - 1024) < 2048; omega, Fin.ext (by show c.val = 1024 + (c.val - 1024); omega)⟩
    have key := fun d : Fin 144 => step_d2 v (4 * (i 1).val) c' ⟨1024 + c'.val, hc'⟩ d (2048 * (i 1).val + (1024 + c'.val)) (4 * (i 1).val + 2) P _ _
      (window (Mp i x2 x3 x4 x5 x6) ![0, 1024] S1x1024.size inb_S1x2048_S1x1024_0_1024)
      (k0_pay101 (qq x3) (Att.kd i x4 2) (Att.kd i x5 2)) (k0_pay100 (qq x3) (Att.kd i x4 2) (Att.kd i x5 2)) (Att.vd i x6 1)
      (window (Ap i x2 x3 x4 x5 x6) ![0, 1024] S144x1024.size inbA)
      (by
        rw [window_at _ 0 1024 _ 0 c' (by decide) (by omega), window_at _ 0 1024 _ d c' (by omega) (by omega)]
        simpa only [Nat.zero_add] using hr d)
      (by rw [hP]; omega) (pend_d2 v x3 h.q (i 1).val c' hc' _ _ (h.kd 2)) (h.rd 1) h.rq (h.vd 1)
    refine ⟨insert (4 * (i 1).val + 2) P, k0_pay107 (Att.rq i x2) (Att.rd i x2 1) (window (Mp i x2 x3 x4 x5 x6) ![0, 1024] S1x1024.size inb_S1x2048_S1x1024_0_1024)
      (k0_pay101 (qq x3) (Att.kd i x4 2) (Att.kd i x5 2)) (ix2 0 c'), fun K hK => ?_, fun d => ?_⟩
    rotate_left
    · unfold A2
      rw [put_in _ 1024 _ d c' hc']
      exact key d
    · rw [Finset.mem_insert, hP]
      have hK' : K ≤ 2048 * (i 1).val + (1024 + c'.val) := hK
      omega

include h in
/-- What the tile writes at query `c`, coordinate `d`. -/
theorem out_apply (c : Fin 2048) (d : Fin 128) :
    out i x2 x3 x4 x5 x6 (ix2 c d) = (soft (v.L (4 * (i 1).val) c) (v.v d) (2048 * (i 1).val + c.val) : EReal) := by
  obtain ⟨P, M, hP, hr⟩ := after2 h c
  unfold out
  rw [quot_apply, window_at _ 0 0 _ d c (by omega) (by omega), window_at _ 128 0 _ 0 c (by decide) (by omega)]
  simp only [Nat.zero_add]
  have hN := hr ⟨d.val, by omega⟩
  have hD := hr ⟨128, by omega⟩
  have eN : v.w ⟨d.val, by omega⟩ = v.v d := by funext K; unfold Vals.w; exact dif_pos d.isLt
  have eD : v.w ⟨128, by omega⟩ = fun _ => 1 := by funext K; unfold Vals.w; exact dif_neg (by decide)
  rw [eN] at hN
  rw [eD] at hD
  exact Run.quotient hP hN hD

end Cert.KernelIdeal.Att

end
-- ==== Proof.AttRef.lean ====
/- The reference's attention read at one query and coordinate: the softmax average of the values. -/
module

public import proofs.«01_k».proof.Proof.AttPay
public import proofs.«01_k».proof.Proof.Gen.ReferenceIdeal.Read

@[expose] public section

set_option maxRecDepth 16384

noncomputable section

namespace Cert.ReferenceIdeal.Att

open Idealize.ShloMosaic Cert.ReferenceIdeal Cert.ReferenceIdeal.Gen Cert.ReferenceIdeal.Read Cert.Att

/-- A float that is a real. -/
abbrev IsReal (x : EReal) : Prop := x = (x.toReal : EReal)

variable (x0 : (⟨S8x32, .f32⟩ : BufTy).Contents (Elt Ideal)) (x1 : (⟨S8x128x16384, .bf16⟩ : BufTy).Contents (Elt Ideal))
  (x2 x3 : (⟨S8x16384x128, .bf16⟩ : BufTy).Contents (Elt Ideal)) (x4 : (⟨S8x128x16384, .bf16⟩ : BufTy).Contents (Elt Ideal))

/-- Every entry of the five arrays is a real. -/
structure Reals : Prop where
  /-- the block starts -/
  r : ∀ h b, IsReal (x0 (ix2 h b))
  /-- the queries -/
  q : ∀ h d Q, IsReal (x1 (ix3 h d Q))
  /-- the keys -/
  k : ∀ h K d, IsReal (x2 (ix3 h K d))
  /-- the gate's pieces -/
  g : ∀ h K d, IsReal (x3 (ix3 h K d))
  /-- the values -/
  v : ∀ h d K, IsReal (x4 (ix3 h d K))

/-- Head `h`'s reals, with the queries of tile `n`. -/
def vals (h n : Fin 8) : KernelIdeal.Att.Vals where
  r b := if hb : b < 32 then (x0 (ix2 h ⟨b, hb⟩)).toReal else 0
  q d c := (x1 (ix3 h d ⟨2048 * n.val + c.val, by omega⟩)).toReal
  k K d := if hK : K < 16384 then (x2 (ix3 h ⟨K, hK⟩ d)).toReal else 0
  g K d := if hK : K < 16384 then (x3 (ix3 h ⟨K, hK⟩ d)).toReal else 0
  v d K := if hK : K < 16384 then (x4 (ix3 h d ⟨K, hK⟩)).toReal else 0

theorem p9 (h : Fin 8) (K : Fin 16384) :
    val_main_v9 x0 x3 (ix2 h K) = x0 (ix2 h ⟨K.val / 512, by omega⟩) + (Ideal.ofBits .f32 0x00000000#32 + ∑ k : Fin 3, x3 (ix3 h K ⟨k.val, by omega⟩)) := by
  pointwise [val_main_v9, val_main_v8, val_main_v7, val_main_v6, val_main_v5, val_main_v4, val_main_v3, val_main_cst]

theorem p10 (h : Fin 8) (Q K : Fin 16384) : val_main_v10 x1 x2 (ix3 h Q K) = ∑ d : Fin 128, x1 (ix3 h d Q) * x2 (ix3 h K d) := by
  pointwise [val_main_v10, val_main_v0, val_main_v1]

theorem p15 (h : Fin 8) (Q K : Fin 16384) : val_main_v15 x0 x3 (ix3 h Q K) = val_main_v9 x0 x3 (ix2 h K) - val_main_v9 x0 x3 (ix2 h Q) := by
  pointwise [val_main_v15, val_main_v14, val_main_v13, val_main_v12, val_main_v11]

theorem p23 (h : Fin 8) (Q K : Fin 16384) : val_main_v23 x0 x1 x2 x3 (ix3 h Q K)
    = Scalar.select (IntOp.cmpi CmpIPredicate.sle (BitVec.ofNat 32 K.val) (BitVec.ofNat 32 Q.val))
        (val_main_v10 x1 x2 (ix3 h Q K) + val_main_v15 x0 x3 (ix3 h Q K)) (Ideal.ofBits .f32 0xFF800000#32) := by
  pointwise [val_main_v23, val_main_v22, val_main_call0_v2, val_main_call0_v1, val_main_call0_v0, val_main_cst_0, val_main_v21, val_main_v20, val_main_v19,
    val_main_v18, val_main_v17, val_main_v16]
  rfl

theorem p25 (h : Fin 8) (Q : Fin 16384) : val_main_v25 x0 x1 x2 x3 (ix2 h Q)
    = Finset.univ.fold max (Ideal.ofBits .f32 0xFF800000#32) (fun K : Fin 16384 => val_main_v23 x0 x1 x2 x3 (ix3 h Q K)) := by
  pointwise [val_main_v25, val_main_cst_2]

theorem p29 (h : Fin 8) (Q K : Fin 16384) : val_main_v29 x0 x1 x2 x3 (ix3 h Q K)
    = Ideal.pow (Ideal.ofBits .f32 0x40000000#32) (val_main_v23 x0 x1 x2 x3 (ix3 h Q K) - val_main_v25 x0 x1 x2 x3 (ix2 h Q)) := by
  pointwise [val_main_v29, val_main_v28, val_main_v27, val_main_v26, val_main_v24, val_main_cst_1]

theorem p30 (h : Fin 8) (Q : Fin 16384) : val_main_v30 x0 x1 x2 x3 (ix2 h Q)
    = Ideal.ofBits .f32 0x00000000#32 + ∑ K : Fin 16384, val_main_v29 x0 x1 x2 x3 (ix3 h Q K) := by
  pointwise [val_main_v30, val_main_cst_3]

theorem p33 (h : Fin 8) (Q K : Fin 16384) : val_main_v33 x0 x1 x2 x3 (ix3 h Q K)
    = Ideal.div (val_main_v29 x0 x1 x2 x3 (ix3 h Q K)) (val_main_v30 x0 x1 x2 x3 (ix2 h Q)) := by
  pointwise [val_main_v33, val_main_v32, val_main_v31]

theorem p34 (h : Fin 8) (d : Fin 128) (Q : Fin 16384) : val_main_v34 x0 x1 x2 x3 x4 (ix3 h d Q)
    = ∑ K : Fin 16384, x4 (ix3 h d K) * val_main_v33 x0 x1 x2 x3 (ix3 h Q K) := by
  pointwise [val_main_v34, val_main_v2]

theorem p37 (h : Fin 8) (d : Fin 128) (Q : Fin 16384) (j : Fin 1024) (hj : j.val = 128 * h.val + d.val) :
    val_main_v37 x0 x1 x2 x3 x4 (ix2 Q j) = val_main_v34 x0 x1 x2 x3 x4 (ix3 h d Q) := by
  show val_main_v36 x0 x1 x2 x3 x4 (ix2 Q j) = _
  rw [val_main_v36_apply, val_main_v35_apply]
  refine congrArg _ (funext fun a => Fin.ext ?_)
  have := d.isLt
  have := h.isLt
  match a with
  | ⟨0, _⟩ => show (Q.val * 1024 + j.val) / 128 % 8 = h.val; omega
  | ⟨1, _⟩ => show (Q.val * 1024 + j.val) % 128 = d.val; omega
  | ⟨2, _⟩ => show (Q.val * 1024 + j.val) / 1024 = Q.val; omega

variable {x0 x1 x2 x3 x4} (hf : Reals x0 x1 x2 x3 x4)
include hf

/-- The running sum of the gate at a key, a real. -/
theorem bias_real (h n : Fin 8) (K : Fin 16384) : val_main_v9 x0 x3 (ix2 h K)
    = (((vals x0 x1 x2 x3 x4 h n).r (K.val / 512) + ((vals x0 x1 x2 x3 x4 h n).g K.val 0 + (vals x0 x1 x2 x3 x4 h n).g K.val 1 + (vals x0 x1 x2 x3 x4 h n).g K.val 2) : ℝ) : EReal) := by
  rw [p9, Ideal.ofBits_zero_f32, zero_add, Fin.sum_univ_three, hf.r]
  rw [show x3 (ix3 h K ⟨(0 : Fin 3).val, by decide⟩) = _ from hf.g h K 0, show x3 (ix3 h K ⟨(1 : Fin 3).val, by decide⟩) = _ from hf.g h K 1,
    show x3 (ix3 h K ⟨(2 : Fin 3).val, by decide⟩) = _ from hf.g h K 2]
  unfold vals
  simp only [dif_pos K.isLt, dif_pos (show K.val / 512 < 32 by omega), EReal.coe_add]

/-- The masked logits. -/
theorem logit_real (h n : Fin 8) (c : Fin 2048) (K : Fin 16384) :
    val_main_v23 x0 x1 x2 x3 (ix3 h ⟨2048 * n.val + c.val, by omega⟩ K)
      = if K.val ≤ 2048 * n.val + c.val then (((vals x0 x1 x2 x3 x4 h n).L (4 * n.val) c K.val
          + ((vals x0 x1 x2 x3 x4 h n).r (4 * n.val) - ((vals x0 x1 x2 x3 x4 h n).r ((2048 * n.val + c.val) / 512)
            + ((vals x0 x1 x2 x3 x4 h n).g (2048 * n.val + c.val) 0 + (vals x0 x1 x2 x3 x4 h n).g (2048 * n.val + c.val) 1 + (vals x0 x1 x2 x3 x4 h n).g (2048 * n.val + c.val) 2))) : ℝ) : EReal)
        else ⊥ := by
  rw [p23, KernelIdeal.Att.mask_le _ _ K.isLt (by show 2048 * n.val + c.val < 16384; omega), KernelIdeal.Att.ofBits_ninf, p10, p15, bias_real hf h n, bias_real hf h n]
  have e : ∀ d : Fin 128, x1 (ix3 h d ⟨2048 * n.val + c.val, by omega⟩) * x2 (ix3 h K d)
      = (((vals x0 x1 x2 x3 x4 h n).k K.val d * (vals x0 x1 x2 x3 x4 h n).q d c : ℝ) : EReal) := by
    intro d
    rw [hf.q, hf.k, ← EReal.coe_mul, mul_comm]
    unfold vals
    simp only [dif_pos K.isLt]
  simp only [e]
  rw [← coe_sum, ← EReal.coe_sub, ← EReal.coe_add]
  refine if_congr Iff.rfl (congrArg _ ?_) rfl
  unfold KernelIdeal.Att.Vals.L KernelIdeal.Att.Vals.sc
  ring

/-- The reference's result at query `2048 n + c`, coordinate `d` of head `h`. -/
theorem ref_apply (h n : Fin 8) (c : Fin 2048) (d : Fin 128) (Q : Fin 16384) (hQ : Q.val = 2048 * n.val + c.val) (j : Fin 1024)
    (hj : j.val = 128 * h.val + d.val) :
    val_main_v37 x0 x1 x2 x3 x4 (ix2 Q j)
      = (soft ((vals x0 x1 x2 x3 x4 h n).L (4 * n.val) c) ((vals x0 x1 x2 x3 x4 h n).v d) (2048 * n.val + c.val) : EReal) := by
  have hQ' : 2048 * n.val + c.val < 16384 := by have := n.isLt; have := c.isLt; clear hQ; omega
  obtain rfl : Q = ⟨2048 * n.val + c.val, hQ'⟩ := Fin.ext hQ
  rw [p37 x0 x1 x2 x3 x4 h d _ j hj, p34]
  simp only [p33, p30, p29]
  rw [Ideal.ofBits_zero_f32, show Ideal.ofBits .f32 0x40000000#32 = ((2 : ℝ) : EReal) by simp [Ideal.ofBits, Ideal.ieee]; rw [← EReal.coe_mul]; norm_num]
  have hl := logit_real hf h n c
  rw [← soft_shift _ _ _ _ _ (fun K _ => rfl)]
  refine plain_soft _ _ (2048 * n.val + c.val) (by omega) (fun K => val_main_v23 x0 x1 x2 x3 (ix3 h ⟨2048 * n.val + c.val, by omega⟩ K))
    (fun K => x4 (ix3 h d K)) hl (fun K => ?_) _ ?_
  · rw [hf.v]
    unfold vals
    simp only [dif_pos K.isLt]
  · rw [p25, KernelIdeal.Att.ofBits_ninf]
    refine fold_real _ (fun K => ?_) ⟨2048 * n.val + c.val, by omega⟩ ⟨_, (hl _).trans (if_pos (le_refl _))⟩
    rw [hl]
    split_ifs
    · exact Or.inr ⟨_, rfl⟩
    · exact Or.inl rfl

end Cert.ReferenceIdeal.Att

end
-- ==== Proof.AttPre.lean ====
/- The precondition, read at an entry: the five arrays of the attention hold reals. -/
module

public import proofs.«01_k».proof.Pre_finite_inputs
public import proofs.«01_k».proof.Proof.AttRef

@[expose] public section

set_option maxRecDepth 16384

noncomputable section

namespace Cert.Pre_finite_inputs

open Idealize.ShloMosaic Cert.ReferenceIdeal.Att

variable [Facts]

/-- The word of plus infinity. -/
theorem ofBits_inf : Ideal.ofBits .f32 0x7F800000#32 = ⊤ := by simp [Ideal.ofBits, Ideal.ieee]

/-- The test one entry passes. -/
def ok (x : EReal) : BitVec 1 := Ideal.cmp .olt (max x (-x)) (Ideal.ofBits .f32 0x7F800000#32)

theorem real_of_ok (x : EReal) (h : ok x = 1#1) : IsReal x := by
  unfold ok at h
  rw [ofBits_inf] at h
  refine (EReal.coe_toReal ?_ ?_).symm
  · rintro rfl; simp [Ideal.cmp] at h
  · rintro rfl; simp [Ideal.cmp] at h

theorem and_left (a b : BitVec 1) (h : a &&& b = 1#1) : a = 1#1 ∧ b = 1#1 := by
  revert a b; decide

theorem fn_apply (x0 : FVec Ideal S8x32 .f32) (x1 : FVec Ideal S8x128x16384 .bf16) (x2 x3 : FVec Ideal S8x16384x128 .bf16) (x4 : FVec Ideal S8x128x16384 .bf16)
    (x5 : FVec Ideal S2048x2048 .f32) (x6 : FVec Ideal S2048x8192 .f32) (x7 : FVec Ideal S8192x2048 .f32) (h : Fin 8) (d : Fin 128) (K : Fin 16384) :
    fn (F := Ideal) x0 x1 x2 x3 x4 x5 x6 x7 (ix3 h d K)
      = ((ok (x0 (ix2 h ⟨K.val / 512, by omega⟩)) &&& ok (x1 (ix3 h d K))) &&& (ok (x2 (ix3 h K d)) &&& ok (x3 (ix3 h K d)))) &&& ok (x4 (ix3 h d K)) := by
  unfold ok
  pointwise [fn, fn_part1]
  rfl

/-- Where the precondition holds, every entry of the five arrays is a real. -/
theorem reals (x0 : FVec Ideal S8x32 .f32) (x1 : FVec Ideal S8x128x16384 .bf16) (x2 x3 : FVec Ideal S8x16384x128 .bf16) (x4 : FVec Ideal S8x128x16384 .bf16)
    (x5 : FVec Ideal S2048x2048 .f32) (x6 : FVec Ideal S2048x8192 .f32) (x7 : FVec Ideal S8192x2048 .f32)
    (hp : fn (F := Ideal) x0 x1 x2 x3 x4 x5 x6 x7 = fun _ => 1#1) : Reals x0 x1 x2 x3 x4 := by
  have key : ∀ (h : Fin 8) (d : Fin 128) (K : Fin 16384), IsReal (x0 (ix2 h ⟨K.val / 512, by omega⟩)) ∧ IsReal (x1 (ix3 h d K)) ∧ IsReal (x2 (ix3 h K d))
      ∧ IsReal (x3 (ix3 h K d)) ∧ IsReal (x4 (ix3 h d K)) := by
    intro h d K
    have e := congrFun hp (ix3 h d K)
    rw [fn_apply] at e
    obtain ⟨e, e4⟩ := and_left _ _ e
    obtain ⟨e, e'⟩ := and_left _ _ e
    obtain ⟨e0, e1⟩ := and_left _ _ e
    obtain ⟨e2, e3⟩ := and_left _ _ e'
    exact ⟨real_of_ok _ e0, real_of_ok _ e1, real_of_ok _ e2, real_of_ok _ e3, real_of_ok _ e4⟩
  refine ⟨fun h b => ?_, fun h d Q => (key h d Q).2.1, fun h K d => (key h d K).2.2.1, fun h K d => (key h d K).2.2.2.1, fun h d K => (key h d K).2.2.2.2⟩
  have := (key h 0 ⟨512 * b.val, by omega⟩).1
  have e : (⟨512 * b.val / 512, by omega⟩ : Fin 32) = b := Fin.ext (by show 512 * b.val / 512 = b.val; omega)
  dsimp only at this
  rwa [e] at this

end Cert.Pre_finite_inputs

end
-- ==== Proof.AttFinal.lean ====
/- The arrays the attention call leaves over the reals: what the reference computes of the same arguments. -/
module

public import proofs.«01_k».proof.Proof.AttValue
public import proofs.«01_k».proof.Proof.AttIdealRun
public import proofs.«01_k».proof.Proof.AttPre
public import Idealize.ShloMosaic.Lib.Pipeline.ValueKit.Geometry

@[expose] public section

set_option maxRecDepth 16384

noncomputable section

namespace Cert.KernelIdeal.Att

open Idealize.ShloMosaic Idealize.ShloMosaic.TcCoe Cert.KernelIdeal Cert.KernelIdeal.Gen Cert.Att
open Cert.ReferenceIdeal.Att (Reals vals)

variable (m : (ℓ : Loc nD τ sig) → Buf (Elt Ideal) ℓ)

/-- Where window 0 stands at a grid point: the block starts, whole. -/
theorem e0 : ∀ t : Fin grid0.N, win0_0.index t = ![0, 0] := by decide +kernel

/-- Where window 1 stands at a grid point: the head's queries of one tile. -/
theorem e1 : ∀ t : Fin grid0.N, win0_1.index t = ![(grid0.coords t 0).val, 0, (grid0.coords t 1).val] := by decide +kernel

/-- Where window 2 stands at a grid point: the head's keys. -/
theorem e2 : ∀ t : Fin grid0.N, win0_2.index t = ![(grid0.coords t 0).val, 0, 0] := by decide +kernel

/-- Where window 3 stands at a grid point: the head's gate pieces. -/
theorem e3 : ∀ t : Fin grid0.N, win0_3.index t = ![(grid0.coords t 0).val, 0, 0] := by decide +kernel

/-- Where window 4 stands at a grid point: the head's values. -/
theorem e4 : ∀ t : Fin grid0.N, win0_4.index t = ![(grid0.coords t 0).val, 0, 0] := by decide +kernel

/-- Where window 8 stands at a grid point: the tile's rows of the head's columns. -/
theorem e8 : ∀ t : Fin grid0.N, win0_8.index t = ![(grid0.coords t 1).val, (grid0.coords t 0).val] := by decide +kernel

/-- A device's argument. -/
abbrev arg (c : Dev nD) (b : Ref sig .tc) : Buf (Elt Ideal) ((c.tc : Thread nD τ).loc b) := m ((c.tc : Thread nD τ).loc b)

section Fields

variable {x0 : (⟨S8x32, .f32⟩ : BufTy).Contents (Elt Ideal)} {x1 : (⟨S8x128x16384, .bf16⟩ : BufTy).Contents (Elt Ideal)}
  {x2 x3 : (⟨S8x16384x128, .bf16⟩ : BufTy).Contents (Elt Ideal)} {x4 : (⟨S8x128x16384, .bf16⟩ : BufTy).Contents (Elt Ideal)}

/-- A scale entry of real arguments, as the head's real. -/
theorem vals_r (hf : Reals x0 x1 x2 x3 x4) (h n : Fin 8) (b : ℕ) (hb : b < 32) :
    x0 (ix2 h ⟨b, hb⟩) = (((vals x0 x1 x2 x3 x4 h n).r b : ℝ) : EReal) :=
  (hf.r h ⟨b, hb⟩).trans (congrArg Real.toEReal
    (show (vals x0 x1 x2 x3 x4 h n).r b = (x0 (ix2 h ⟨b, hb⟩)).toReal from dif_pos hb).symm)

/-- A key entry of real arguments, as the head's real. -/
theorem vals_k (hf : Reals x0 x1 x2 x3 x4) (h n : Fin 8) (K : ℕ) (hK : K < 16384) (d : Fin 128) :
    x2 (ix3 h ⟨K, hK⟩ d) = (((vals x0 x1 x2 x3 x4 h n).k K d : ℝ) : EReal) :=
  (hf.k h ⟨K, hK⟩ d).trans (congrArg Real.toEReal
    (show (vals x0 x1 x2 x3 x4 h n).k K d = (x2 (ix3 h ⟨K, hK⟩ d)).toReal from dif_pos hK).symm)

/-- A gate piece of real arguments, as the head's real. -/
theorem vals_g (hf : Reals x0 x1 x2 x3 x4) (h n : Fin 8) (K : ℕ) (hK : K < 16384) (d : Fin 128) :
    x3 (ix3 h ⟨K, hK⟩ d) = (((vals x0 x1 x2 x3 x4 h n).g K d : ℝ) : EReal) :=
  (hf.g h ⟨K, hK⟩ d).trans (congrArg Real.toEReal
    (show (vals x0 x1 x2 x3 x4 h n).g K d = (x3 (ix3 h ⟨K, hK⟩ d)).toReal from dif_pos hK).symm)

/-- A value entry of real arguments, as the head's real. -/
theorem vals_v (hf : Reals x0 x1 x2 x3 x4) (h n : Fin 8) (d : Fin 128) (K : ℕ) (hK : K < 16384) :
    x4 (ix3 h d ⟨K, hK⟩) = (((vals x0 x1 x2 x3 x4 h n).v d K : ℝ) : EReal) :=
  (hf.v h d ⟨K, hK⟩).trans (congrArg Real.toEReal
    (show (vals x0 x1 x2 x3 x4 h n).v d K = (x4 (ix3 h d ⟨K, hK⟩)).toReal from dif_pos hK).symm)

end Fields

/-- The blocks of a grid point hold the head's reals. -/
theorem of_point (c : Dev nD) (t : Fin cfg0.N)
    (hf : Reals (arg m c main_arg0) (arg m c main_arg1) (arg m c main_arg2) (arg m c main_arg3) (arg m c main_arg4)) :
    Of (grid0.coords t) (vals (arg m c main_arg0) (arg m c main_arg1) (arg m c main_arg2) (arg m c main_arg3) (arg m c main_arg4) (grid0.coords t 0) (grid0.coords t 1))
      (iblk m c 0 t) (iblk m c 1 t) (iblk m c 2 t) (iblk m c 3 t) (iblk m c 4 t) := by
  refine ⟨fun b hb => ?_, fun d k => ?_, fun K hK d => ?_, fun K hK d => ?_, fun d K hK => ?_⟩
  · refine Eq.trans ?_ (vals_r hf (grid0.coords t 0) (grid0.coords t 1) b hb)
    blk_simp [iblk]
    refine congrArg (arg m c main_arg0) ?_
    blk_ext [e0]
  · refine Eq.trans ?_ (hf.q (grid0.coords t 0) d _)
    blk_simp [iblk]
    refine congrArg (arg m c main_arg1) ?_
    blk_ext [e1]
  · refine Eq.trans ?_ (vals_k hf (grid0.coords t 0) (grid0.coords t 1) K hK d)
    blk_simp [iblk]
    refine congrArg (arg m c main_arg2) ?_
    blk_ext [e2]
  · refine Eq.trans ?_ (vals_g hf (grid0.coords t 0) (grid0.coords t 1) K hK d)
    blk_simp [iblk]
    refine congrArg (arg m c main_arg3) ?_
    blk_ext [e3]
  · refine Eq.trans ?_ (vals_v hf (grid0.coords t 0) (grid0.coords t 1) d K hK)
    blk_simp [iblk]
    refine congrArg (arg m c main_arg4) ?_
    blk_ext [e4]

/-- The attention output after the run: the reference's, where the arguments are reals. -/
theorem final8 (c : Dev nD)
    (hf : Reals (arg m c main_arg0) (arg m c main_arg1) (arg m c main_arg2) (arg m c main_arg3) (arg m c main_arg4)) :
    (dats m 0 c).arrAt 8 cfg0.N
      = Cert.ReferenceIdeal.Read.val_main_v37 (F := Ideal) (arg m c main_arg0) (arg m c main_arg1) (arg m c main_arg2) (arg m c main_arg3) (arg m c main_arg4) := by
  refine (dats m 0 c).arrAt_eq_of_covers 8 _ (by decide +kernel) fun t hfl y => ?_
  blk_simp
  rw [after0_8]
  idx_vars y
  rw [out_apply (of_point m c t hf)]
  generalize hz : ((View.whole main_v0_0).slice (win0_8.rect t)).emb (ix2 y0 y1) = z
  have h0 : (z 0).val = 2048 * (grid0.coords t 1).val + y0.val := by rw [← hz]; blk_simp [e8]; ring
  have h1 : (z 1).val = 128 * (grid0.coords t 0).val + y1.val := by rw [← hz]; blk_simp [e8]; ring
  clear hz
  idx_vars z
  exact (Cert.ReferenceIdeal.Att.ref_apply hf (grid0.coords t 0) (grid0.coords t 1) y0 y1 _ h0 _ h1).symm

/-- The first carried weight after the run: the argument, cast. -/
theorem final9 (c : Dev nD) :
    (dats m 0 c).arrAt 9 cfg0.N = Cert.ReferenceIdeal.Read.val_main_v38 (F := Ideal) (arg m c main_arg5) := by
  refine (dats m 0 c).arrAt_eq_of_covers 9 _ (by decide +kernel) fun t hfl y => ?_
  blk_simp
  rw [after0_9]
  exact congrArg (arg m c main_arg5) (show (win0_5.blk t).view.emb y = (win0_9.blk t).view.emb y from rfl)

/-- The second carried weight after the run: the argument, cast. -/
theorem final10 (c : Dev nD) :
    (dats m 0 c).arrAt 10 cfg0.N = Cert.ReferenceIdeal.Read.val_main_v39 (F := Ideal) (arg m c main_arg6) := by
  refine (dats m 0 c).arrAt_eq_of_covers 10 _ (by decide +kernel) fun t hfl y => ?_
  blk_simp
  rw [after0_10]
  exact congrArg (arg m c main_arg6) (show (win0_6.blk t).view.emb y = (win0_10.blk t).view.emb y from rfl)

/-- The third carried weight after the run: the argument, cast. -/
theorem final11 (c : Dev nD) :
    (dats m 0 c).arrAt 11 cfg0.N = Cert.ReferenceIdeal.Read.val_main_v40 (F := Ideal) (arg m c main_arg7) := by
  refine (dats m 0 c).arrAt_eq_of_covers 11 _ (by decide +kernel) fun t hfl y => ?_
  blk_simp
  rw [after0_11]
  exact congrArg (arg m c main_arg7) (show (win0_7.blk t).view.emb y = (win0_11.blk t).view.emb y from rfl)

end Cert.KernelIdeal.Att

end
-- ==== Proof.FfnIdealBody.lean ====
module

public import proofs.«01_k».proof.Proof.Gen.FfnIdeal.Skeleton
public import proofs.«01_k».proof.Proof.Gen.FfnIdeal.Frame
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 16384
set_option maxHeartbeats 4000000

noncomputable section

namespace Cert.FfnIdeal.Ff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal Cert.FfnIdeal.Gen

variable {F : FTy → Type} [FloatOps F]

local notation "𝕄G" => MT nD τ sig Unit (Elt F) ℕ (Pipeline.UD sig nD τ) ℕ

/-! The body of the feed-forward call at one grid point. Its four points per row tile share one asynchronous copy: the first
    point starts it, the last one waits for it. -/

/-- The row tile of `x1` a grid point's copy reads is inside the array. -/
theorem inb1 : ∀ (i : grid0.Coords) a, k0_off1 i a + S512x2048.size a ≤ S16384x2048.size a := by decide +kernel

/-- The row tile of `x1` the copy of a grid point reads. -/
abbrev src (i : grid0.Coords) : Memref sig .tc .hbm S512x2048 .f32 :=
  (Memref.whole main_arg3 : Memref sig .tc .hbm S16384x2048 .f32).slice (Rect.unit (s := S16384x2048) (k0_off1 i) S512x2048.size (inb1 i)) (fun _ => rfl)
/-- Where the copy lands. -/
abbrev dst : Memref sig .tc .vmem S512x2048 .f32 := Memref.whole cc0_scratch0

/-- What the scratch buffer holds once the copy has landed. -/
abbrev landed (c : Dev nD) (i : grid0.Coords) (x : Buf (Elt F) ((c : Thread nD τ).loc main_arg3)) (f : Buf (Elt F) ((c : Thread nD τ).loc cc0_scratch0)) :
    Buf (Elt F) ((c : Thread nD τ).loc cc0_scratch0) :=
  dst.view.writes (Elt F) f [⟨Rect.whole S512x2048, ReadAs.same.apply ((src i).view.read (Elt F) x)⟩]

omit [FloatOps F] in
/-- Read back, it is the tile. -/
theorem read_landed (c : Dev nD) (i : grid0.Coords) (x : Buf (Elt F) ((c : Thread nD τ).loc main_arg3)) (f : Buf (Elt F) ((c : Thread nD τ).loc cc0_scratch0)) :
    dst.view.read (Elt F) (landed c i x f) = (src i).view.read (Elt F) x := by
  unfold landed
  rw [View.read_writes_whole]

omit [FloatOps F] in
/-- A load of the whole scratch buffer then reads the tile. -/
theorem load_landed (c : Dev nD) (i : grid0.Coords) (x : Buf (Elt F) ((c : Thread nD τ).loc main_arg3)) (f : Buf (Elt F) ((c : Thread nD τ).loc cc0_scratch0)) :
    View.readAt (Elt F) dst.view (Rect.unit (s := S512x2048) ![0, 0] S512x2048.size inb_S512x2048_S512x2048_0_0).toLoadRect (landed c i x f) = (src i).view.read (Elt F) x :=
  (View.readAt_full dst.view _ _).trans (read_landed c i x f)

/-- The copy in flight: when it is collected, the scratch buffer at the tile of `x1`, and the tile back. -/
abbrev flying (c : Dev nD) (i : grid0.Coords) (x : Buf (Elt F) ((c : Thread nD τ).loc main_arg3)) (f : Buf (Elt F) ((c : Thread nD τ).loc cc0_scratch0)) : sProp 𝕄G :=
  Transfers.Flight (countersEmb (U := Pipeline.UD sig nD τ)) (c : Thread nD τ) (.dma 10) () (dst.view.amount (SemLoc.dma (sig := sig) 10))
    iprop((((c : Thread nD τ).loc cc0_scratch0) ↦[dst.view.set]{fullShare} landed c i x f) ∗ (((c : Thread nD τ).loc main_arg3) ↦[(src i).view.set]{fullShare} x))

section Body
variable (i : grid0.Coords) (arg2 : Memref sig .tc .vmem S512x2048 .bf16) (harg2 : arg2.IsWhole) (arg3 : Memref sig .tc .vmem S2048x2048 .bf16) (harg3 : arg3.IsWhole) (arg4 : Memref sig .tc .vmem S2048x2048 .bf16) (harg4 : arg4.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole)

/-- The first point of a row tile. -/
theorem body_first (c : Dev nD) (X2 : BufTy.Contents (Elt F) arg2.view.ty) (X3 : BufTy.Contents (Elt F) arg3.view.ty) (X4 : BufTy.Contents (Elt F) arg4.view.ty) (X8 : BufTy.Contents (Elt F) arg8.view.ty)
    (x : Buf (Elt F) ((c : Thread nD τ).loc main_arg3)) (f : Buf (Elt F) ((c : Thread nD τ).loc cc0_scratch0))
    (h1 : k0_cond1 i = 1#1) (h2 : ¬ k0_cond2 i = 1#1) (h3 : ¬ k0_cond3 i = 1#1) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)
        ∗ ((src i).view.loc (c : Thread nD τ) ↦[(src i).view.set]{fullShare} x) ∗ (dst.view.loc (c : Thread nD τ) ↦[dst.view.set]{fullShare} f) ∗ semVal ((c : Thread nD τ), SemLoc.dma 10) 0)
      ⊢ wp frame (wpE (defs₀ (F := F)) Variants.none (c : Thread nD τ) none) Set.univ
          (cc0_ffn (F := F) i arg2 harg2 arg3 harg3 arg4 harg4 (Memref.whole main_arg3) (Memref.isWhole_whole _) arg6 harg6 arg7 harg7 arg8 harg8 (Memref.whole cc0_scratch0) (Memref.isWhole_whole _) cc0_scratch1)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (∃ g, (arg8.view.loc (c : Thread nD τ) ↦[arg8.view.set]{fullShare} g) ∗ ⌜arg8.view.read (Elt F) g = k0_pay1 (arg2.view.read (Elt F) X2) (arg3.view.read (Elt F) X3) (arg4.view.read (Elt F) X4)⌝)
            ∗ (∃ f, flying c i x f))) := by
  rw [cc0_ffn_eq_skeleton]
  unfold cc0_ffn_skel
  rw [dif_pos h1, dif_neg h2, dif_neg h3]
  iintro ⟨H2, H3, H4, H8, Hs, Hd, Hc⟩
  sl_exec
  sl_step
  isplitl [H2]; · iexact H2
  isplitl [H3]; · iexact H3
  isplitl [H4]; · iexact H4
  isplitl [H8]
  · iexists _; isplitl [H8]; · iexact H8
    ipureintro
    sl_unfold_words
    rw [View.read_writes_full, View.readAt_full, View.readAt_full, View.readAt_full]
  · iexists f; iexact Hc

/-- The two middle points. -/
theorem body_mid (c : Dev nD) (X2 : BufTy.Contents (Elt F) arg2.view.ty) (X3 : BufTy.Contents (Elt F) arg3.view.ty) (X4 : BufTy.Contents (Elt F) arg4.view.ty) (X8 : BufTy.Contents (Elt F) arg8.view.ty)
    (h1 : ¬ k0_cond1 i = 1#1) (h2 : k0_cond2 i = 1#1) (h3 : ¬ k0_cond3 i = 1#1) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))
      ⊢ wp frame (wpE (defs₀ (F := F)) Variants.none (c : Thread nD τ) none) Set.univ
          (cc0_ffn (F := F) i arg2 harg2 arg3 harg3 arg4 harg4 (Memref.whole main_arg3) (Memref.isWhole_whole _) arg6 harg6 arg7 harg7 arg8 harg8 (Memref.whole cc0_scratch0) (Memref.isWhole_whole _) cc0_scratch1)
          (fun _ => (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (∃ g, (arg8.view.loc (c : Thread nD τ) ↦[arg8.view.set]{fullShare} g) ∗ ⌜arg8.view.read (Elt F) g = k0_pay2 (arg8.view.read (Elt F) X8) (arg2.view.read (Elt F) X2) (arg3.view.read (Elt F) X3) (arg4.view.read (Elt F) X4)⌝)) : sProp 𝕄G)) := by
  rw [cc0_ffn_eq_skeleton]
  unfold cc0_ffn_skel
  rw [dif_neg h1, dif_pos h2, dif_neg h3]
  iintro ⟨H2, H3, H4, H8⟩
  sl_exec
  sl_step
  isplitl [H2]; · iexact H2
  isplitl [H3]; · iexact H3
  isplitl [H4]; · iexact H4
  iexists _; isplitl [H8]; · iexact H8
  ipureintro
  sl_unfold_words
  rw [View.read_writes_full, View.readAt_full, View.readAt_full, View.readAt_full, View.readAt_full]

/-- The last point. -/
theorem body_last (c : Dev nD) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty)
    (j : grid0.Coords) (x : Buf (Elt F) ((c : Thread nD τ).loc main_arg3)) (f : Buf (Elt F) ((c : Thread nD τ).loc cc0_scratch0)) (W : Waits sig Unit)
    (h1 : ¬ k0_cond1 i = 1#1) (h2 : k0_cond2 i = 1#1) (h3 : k0_cond3 i = 1#1) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
        ∗ flying c j x f ∗ owes (c : Thread nD τ) 0 W)
      ⊢ wp frame (wpE (defs₀ (F := F)) Variants.none (c : Thread nD τ) none) Set.univ
          (cc0_ffn (F := F) i arg2 harg2 arg3 harg3 arg4 harg4 (Memref.whole main_arg3) (Memref.isWhole_whole _) arg6 harg6 arg7 harg7 arg8 harg8 (Memref.whole cc0_scratch0) (Memref.isWhole_whole _) cc0_scratch1)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7)
            ∗ (∃ g, (arg8.view.loc (c : Thread nD τ) ↦[arg8.view.set]{fullShare} g) ∗ ⌜arg8.view.read (Elt F) g = k0_pay3 (k0_pay2 (arg8.view.read (Elt F) X8) (arg2.view.read (Elt F) X2) (arg3.view.read (Elt F) X3) (arg4.view.read (Elt F) X4)) ((src j).view.read (Elt F) x) (arg7.view.read (Elt F) X7) (arg6.view.read (Elt F) X6)⌝)
            ∗ ((src j).view.loc (c : Thread nD τ) ↦[(src j).view.set]{fullShare} x) ∗ (∃ f, dst.view.loc (c : Thread nD τ) ↦[dst.view.set]{fullShare} f) ∗ semVal ((c : Thread nD τ), SemLoc.dma 10) 0 ∗ ∃ W, owes (c : Thread nD τ) 0 W)) := by
  rw [cc0_ffn_eq_skeleton]
  unfold cc0_ffn_skel
  rw [dif_neg h1, dif_pos h2, dif_pos h3]
  iintro ⟨H2, H3, H4, H6, H7, H8, Hf, Ho⟩
  sl_exec
  sl_step
  sl_exec
  sl_step
  isplitl [H2]; · iexact H2
  isplitl [H3]; · iexact H3
  isplitl [H4]; · iexact H4
  isplitl [H6]; · iexact H6
  isplitl [H7]; · iexact H7
  isplitl [H8]
  · iexists _; isplitl [H8]; · iexact H8
    ipureintro
    refine (View.read_writes_full _ _ _ _ _).trans ?_
    sl_unfold_words
    unfold View.readCov
    repeat rw [View.readAt_full]
    rw [View.read_writes_full]
    rw [load_landed]
  isplitl [Hf_src]; · iexact Hf_src
  isplitl [Hf_dst]; · iexists _; iexact Hf_dst
  isplitl [Hf]; · iexact Hf
  iexists _; iexact Ho

end Body

end Cert.FfnIdeal.Ff

end
-- ==== Proof.FfnIdealRun.lean ====
module

public import proofs.«01_k».proof.Proof.FfnIdealBody
public import proofs.«01_k».proof.Proof.Gen.FfnIdeal.Frame
public import proofs.«01_k».proof.Proof.Gen.FfnIdeal.Points
public import proofs.«01_k».proof.Proof.Gen.FfnIdeal.Launch
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pipeline.TableIdle
public import Idealize.ShloMosaic.Lib.VecWindow

@[expose] public section

set_option maxRecDepth 16384
set_option maxHeartbeats 4000000

noncomputable section

namespace Cert.FfnIdeal.Ff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnIdeal Cert.FfnIdeal.Gen

variable {F : FTy → Type} [FloatOps F]

local notation "𝕄G" => MT nD τ sig Unit (Elt F) ℕ (Pipeline.UD sig nD τ) ℕ

/-! What the pipeline around the feed-forward body computes: the proof data, the body obligation, the launch. -/
variable (m : (ℓ : Loc nD τ sig) → Buf (Elt F) ℓ) (ρ : Dev nD → PrngReg)

/-! ## The grid's points: four per row tile -/

/-- A point by its number. -/
def pt (n : ℕ) : Fin cfg0.N := ⟨n % 128, Nat.mod_lt n (by decide)⟩
theorem pt_val (t : Fin cfg0.N) : pt t.val = t := Fin.ext (Nat.mod_eq_of_lt t.isLt)
/-- The first point of the row tile that point `n` works on. -/
def start (n : ℕ) : grid0.Coords := grid0.coords (pt (4 * (n / 4)))

theorem conds_first : ∀ t : Fin grid0.N, t.val % 4 = 0 → k0_cond1 (grid0.coords t) = 1#1 ∧ ¬ k0_cond2 (grid0.coords t) = 1#1 ∧ ¬ k0_cond3 (grid0.coords t) = 1#1 := by decide +kernel
theorem conds_last : ∀ t : Fin grid0.N, t.val % 4 = 3 → ¬ k0_cond1 (grid0.coords t) = 1#1 ∧ k0_cond2 (grid0.coords t) = 1#1 ∧ k0_cond3 (grid0.coords t) = 1#1 := by decide +kernel
theorem conds_mid : ∀ t : Fin grid0.N, t.val % 4 ≠ 0 → t.val % 4 ≠ 3 → ¬ k0_cond1 (grid0.coords t) = 1#1 ∧ k0_cond2 (grid0.coords t) = 1#1 ∧ ¬ k0_cond3 (grid0.coords t) = 1#1 := by decide +kernel
/-- Every point stores to the result's buffer. -/
theorem idle5 : ∀ t : Fin grid0.N, cfg0.idle 5 (grid0.coords t) = false := by decide +kernel

theorem start_first (t : Fin cfg0.N) (h : t.val % 4 = 0) : start (t.val + 1) = grid0.coords t := by
  unfold start
  refine congrArg grid0.coords (Fin.ext ?_)
  show 4 * ((t.val + 1) / 4) % 128 = t.val
  have := t.isLt
  have h2 : t.val < 128 := this
  omega
theorem start_succ (n : ℕ) (h : n % 4 ≠ 3) : start (n + 1) = start n := by
  unfold start
  rw [show (n + 1) / 4 = n / 4 by omega]

/-! ## The proof data -/

/-- What the result's buffer holds after point `n`, before the last point's residual and norm. -/
def acc (c : Dev nD) : ℕ → Vec F S512x2048 .f32
  | 0 => k0_pay1 (iblk m c 0 (pt 0)) (iblk m c 1 (pt 0)) (iblk m c 2 (pt 0))
  | n + 1 => if (n + 1) % 4 = 0 then k0_pay1 (iblk m c 0 (pt (n + 1))) (iblk m c 1 (pt (n + 1))) (iblk m c 2 (pt (n + 1)))
      else k0_pay2 (acc c n) (iblk m c 0 (pt (n + 1))) (iblk m c 1 (pt (n + 1))) (iblk m c 2 (pt (n + 1)))

theorem acc_first (c : Dev nD) (t : Fin cfg0.N) (h : t.val % 4 = 0) : acc m c t.val = k0_pay1 (iblk m c 0 t) (iblk m c 1 t) (iblk m c 2 t) := by
  conv_rhs => rw [← pt_val t]
  generalize t.val = n at h
  cases n with
  | zero => rfl
  | succ n => exact if_pos h

theorem acc_next (c : Dev nD) (t : Fin cfg0.N) (h : t.val % 4 ≠ 0) : acc m c t.val = k0_pay2 (acc m c (t.val - 1)) (iblk m c 0 t) (iblk m c 1 t) (iblk m c 2 t) := by
  conv_rhs => rw [← pt_val t, pt_val t]
  have e := pt_val t
  generalize hn : t.val = n at h e
  subst e
  cases n with
  | zero => exact absurd rfl h
  | succ n => exact if_neg h

/-- The row tile of `x1` that point `n`'s row tile adds. -/
def xtile (c : Dev nD) (n : ℕ) : Vec F S512x2048 .f32 := (src (start n)).view.read (Elt F) (V m c main_arg3)

/-- What the result's buffer holds after a point. -/
def out5 (c : Dev nD) (n : ℕ) (g : Vec F S1x2048 .f32) (p : Vec F S1x2048 .f32) : Vec F S512x2048 .f32 :=
  if n % 4 = 3 then k0_pay3 (acc m c n) (xtile m c n) g p else acc m c n

/-- Between two row tiles: the scratch buffer, the copy's counter at zero, and `x1` whole. -/
def idleInv (c : Dev nD) : sProp 𝕄G :=
  iprop((∃ f : Buf (Elt F) ((c : Thread nD τ).loc cc0_scratch0), ((c : Thread nD τ).loc cc0_scratch0) ↦{fullShare} f) ∗ (∃ r, prngReg c r)
    ∗ semVal ((c : Thread nD τ), SemLoc.dma 10) 0 ∗ (((c : Thread nD τ).loc main_arg3) ↦{fullShare} V m c main_arg3))

/-- Within a row tile: the copy in flight, and the rest of `x1`. -/
def busyInv (c : Dev nD) (i : grid0.Coords) : sProp 𝕄G :=
  iprop((∃ f, flying c i (V m c main_arg3) f) ∗ (∃ r, prngReg c r) ∗ (((c : Thread nD τ).loc main_arg3) ↦[Finset.univ \ (src i).view.set]{fullShare} V m c main_arg3))

/-- The invariant before point `n`. -/
def inv (c : Dev nD) (n : ℕ) : sProp 𝕄G := if n % 4 = 0 then idleInv m c else busyInv m c (start n)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t.val (iblk m c 4 t) (iblk m c 3 t)
  Φ t := inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t.val (iblk m c 4 t) (iblk m c 3 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- Within a row tile the result's buffer still holds what the point before left. -/
theorem before0_5 (c : Dev nD) (t : Fin cfg0.N) (h : t.val % 4 ≠ 0) (d) : (dats m 0 c).before 5 t d = acc m c (t.val - 1) := by
  have h0 : t.val ≠ 0 := fun e => h (by rw [e])
  have hlt : t.val - 1 < cfg0.N := Nat.lt_of_le_of_lt (Nat.sub_le _ _) t.isLt
  have hfl : (cfg0.win 5).flush ⟨t.val - 1, hlt⟩ = false := by
    rw [Bool.eq_false_iff]
    intro e
    have := (flush0_5 ⟨t.val - 1, hlt⟩).mp e
    have h3 : (t.val - 1) % 4 = 3 := this
    omega
  have hs : t.val = (t.val - 1) + 1 := by omega
  rw [(dats m 0 c).before_out_traj 5 rfl (fun _ _ => rfl) (fun t _ hi _ => absurd hi (by rw [show cfg0.idle 5 (cfg0.grid.coords t) = false from idle5 t]; exact Bool.false_ne_true)) t.val t rfl d]
  rw [if_neg (by
    rw [hs, Cfg.fresh_succ cfg0 5 _ hlt, hfl, show cfg0.idle 5 (cfg0.grid.coords ⟨t.val - 1, hlt⟩) = false from idle5 ⟨t.val - 1, hlt⟩]
    exact Bool.false_ne_true)]
  rw [after0_5]
  exact if_neg (by show ¬ (t.val - 1) % 4 = 3; omega)

/-- What the body is given at a point, -/
def bodyPre (c : Dev nD) (t : Fin cfg0.N) : sProp 𝕄G :=
  iprop((dats m 0 c).Φ t.castSucc
    ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄G :=
  iprop((dats m 0 c).Φ t.succ
    ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

theorem phi_pre (c : Dev nD) (t : Fin cfg0.N) : (dats m 0 c).Φ t.castSucc = inv m c t.val := rfl
theorem phi_post (c : Dev nD) (t : Fin cfg0.N) : (dats m 0 c).Φ t.succ = inv m c (t.val + 1) := rfl
theorem inv_idle (c : Dev nD) (n : ℕ) (h : n % 4 = 0) : inv m c n = idleInv m c := if_pos h
theorem inv_busy (c : Dev nD) (n : ℕ) (h : n % 4 ≠ 0) : inv m c n = busyInv m c (start n) := if_neg h

/-- The body at the first point of a row tile. -/
theorem sound_first (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  obtain ⟨k1, k2, k3⟩ := conds_first t h
  simp only [before0_0, before0_1, before0_2, before0_3, before0_4]
  rw [phi_pre, phi_post, inv_idle m c _ h, inv_busy m c (t.val + 1) (by omega), start_first t h, after0_0, after0_1, after0_2, after0_3, after0_4, after0_5]
  unfold Dat.owesAt Pipeline.owesWithin
  rw [show (dats m 0 c).owed t.castSucc = 0 from rfl, show (dats m 0 c).owed t.succ = 0 from rfl]
  unfold idleInv busyInv owns
  iintro ⟨⟨⟨%f, S⟩, Hp, Hc, HX⟩, ⟨%W, %hW, Ho⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  ihave HX2 := (pointsTo_split_subset (Finset.subset_univ (src (grid0.coords t)).view.set)).1 $$ HX
  icases HX2 with ⟨HB, HR⟩
  iapply (wp_wand_r _ _ _)
  isplitl [H0 H1 H2 H5 HB S Hc]
  · iapply (body_first (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) c f0 f1 f2 f5 (V m c main_arg3) f k1 k2 k3)
    simp only [Memref.view_whole, View.set_whole]
    isplitl [H0]; · iexact H0
    isplitl [H1]; · iexact H1
    isplitl [H2]; · iexact H2
    isplitl [H5]; · iexact H5
    isplitl [HB]; · iexact HB
    isplitl [S]; · iexact S
    iexact Hc
  simp only [Memref.view_whole, View.set_whole]
  iintro %u ⟨H0, H1, H2, ⟨%g5, H5, %q5⟩, Hf⟩
  isplitl [Hf Hp HR]
  · isplitl [Hf]; · iexact Hf
    isplitl [Hp]; · iexact Hp
    iexact HR
  isplitl [Ho]
  · iexists W; isplitr
    · ipureintro; exact fun _ _ => Or.inl trivial
    · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  iexists g5; isplitr
  · ipureintro
    rw [q5]
    unfold out5
    rw [if_neg (by omega), acc_first m c t h, e0, e1, e2]
  · iexact H5

/-- The body at a middle point of a row tile. -/
theorem sound_mid (c : Dev nD) (t : Fin cfg0.N) (h : t.val % 4 ≠ 0) (h3 : t.val % 4 ≠ 3) :
    bodyPre m c t ⊢ wp frame (wpE (defs₀ (F := F)) Variants.none c none) Set.univ (bodyAt0 t) (fun _ => bodyPost m c t) := by
  unfold bodyPre bodyPost bodyAt0
  obtain ⟨k1, k2, k3⟩ := conds_mid t h h3
  simp only [before0_0, before0_1, before0_2, before0_3, before0_4, before0_5 m c t h]
  rw [phi_pre, phi_post, inv_busy m c _ h, inv_busy m c (t.val + 1) (by omega), start_succ t.val h3, after0_0, after0_1, after0_2, after0_3, after0_4, after0_5]
  unfold Dat.owesAt Pipeline.owesWithin
  rw [show (dats m 0 c).owed t.castSucc = 0 from rfl, show (dats m 0 c).owed t.succ = 0 from rfl]
  unfold owns
  iintro ⟨Hi, ⟨%W, %hW, Ho⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r _ _ _)
  isplitl [H0 H1 H2 H5]
  · iapply (body_mid (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) c f0 f1 f2 f5 k1 k2 k3)
    simp only [Memref.view_whole, View.set_whole]
    isplitl [H0]; · iexact H0
    isplitl [H1]; · iexact H1
    isplitl [H2]; · iexact H2
    iexact H5
  simp only [Memref.view_whole, View.set_whole]
  iintro %u ⟨H0, H1, H2, ⟨%g5, H5, %q5⟩⟩
  isplitl [Hi]; · iexact Hi
  isplitl [Ho]
  · iexists W; isplitr
    · ipureintro; exact fun _ _ => Or.inl trivial
    · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  iexists g5; isplitr
  · ipureintro
    rw [q5]
    unfold out5
    rw [if_neg h3, acc_next m c t h, e0, e1, e2, e5]
  · iexact H5

/-- The body at the last point of a row tile. -/
theorem sound_last (c : Dev nD) (t : Fin cfg0.N) (h3 : t.val % 4 = 3) :
    bodyPre m c t ⊢ wp frame (wpE (defs₀ (F := F)) Variants.none c none) Set.univ (bodyAt0 t) (fun _ => bodyPost m c t) := by
  unfold bodyPre bodyPost bodyAt0
  obtain ⟨k1, k2, k3⟩ := conds_last t h3
  simp only [before0_0, before0_1, before0_2, before0_3, before0_4, before0_5 m c t (show t.val % 4 ≠ 0 by omega)]
  rw [phi_pre, phi_post, inv_busy m c _ (show t.val % 4 ≠ 0 by omega), inv_idle m c (t.val + 1) (by omega), after0_0, after0_1, after0_2, after0_3, after0_4, after0_5]
  unfold Dat.owesAt Pipeline.owesWithin
  rw [show (dats m 0 c).owed t.castSucc = 0 from rfl, show (dats m 0 c).owed t.succ = 0 from rfl]
  unfold idleInv busyInv owns
  iintro ⟨⟨⟨%f, Hf⟩, Hp, HR⟩, ⟨%W, %hW, Ho⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  iapply (wp_wand_r _ _ _)
  isplitl [H0 H1 H2 H3 H4 H5 Hf Ho]
  · iapply (body_last (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) c f0 f1 f2 f3 f4 f5 (start t.val) (V m c main_arg3) f W k1 k2 k3)
    simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [Hf]; · iexact Hf
    iexact Ho
  simp only [Memref.view_whole, View.set_whole]
  iintro %u ⟨H0, H1, H2, H3, H4, ⟨%g5, H5, %q5⟩, HB, ⟨%f', S⟩, Hc, ⟨%W', Ho⟩⟩
  isplitl [S Hp Hc HB HR]
  · isplitl [S]; · iexists f'; iexact S
    isplitl [Hp]; · iexact Hp
    isplitl [Hc]; · iexact Hc
    iapply (pointsTo_split_subset (Finset.subset_univ (src (start t.val)).view.set)).2
    isplitl [HB]; · iexact HB
    iexact HR
  isplitl [Ho]
  · iexists W'; isplitr
    · ipureintro; exact fun _ _ => Or.inl trivial
    · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  iexists g5; isplitr
  · ipureintro
    rw [q5]
    unfold out5
    rw [if_pos h3, acc_next m c t (by omega), e0, e1, e2, e3, e4, e5]
    rfl
  · iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · exact sound_first m c t h
  · by_cases h3 : t.val % 4 = 3
    · exact sound_last m c t h3
    · exact sound_mid m c t h h3

/-- The body table's row at a point's buffers is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  dsimp only
  rw [show idle0 5 (grid0.coords t) = false from idle5 t]
  exact (Entails.rfl (P := bodyPost m c t))

/-! ## The launch -/

/-- The body's own cell: the copy's counter. -/
abbrev osem0 : Fin 1 → SemLoc sig := fun _ => SemLoc.dma 10
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = iprop(semVal ((c : Thread nD τ), SemLoc.dma 10) 0) := by
  rw [Pipeline.ownSems0_eq_of_list c osem0 [0] (by decide) (by decide)]; rfl
/-- The array the body's copy reads. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄G) = iprop(((c : Thread nD τ).loc main_arg3) ↦{fullShare} V m c main_arg3) := by
  rw [BI.bigSep_eq_bigSepL_of_eq [main_arg3] (by decide) (by decide)]; rfl
/-- What the launch hands the body is the invariant between two row tiles. -/
theorem phi_eq (c : Dev nD) : (Pipeline.ΦD osem0 spec0 H0 (V m) c : sProp 𝕄G) = idleInv m c := by
  rw [Pipeline.ΦD_eq, scopedRest0_eq, ownSems00_eq, hbmPts0_eq]; rfl

/-- Before the first point, and after the last. -/
theorem inv_in (c : Dev nD) : (idleInv m c : sProp 𝕄G) ⊢ inv m c 0 := Entails.of_eq (inv_idle m c 0 rfl).symm
theorem inv_out (c : Dev nD) : (inv m c 128 : sProp 𝕄G) ⊢ idleInv m c := Entails.of_eq (inv_idle m c 128 rfl)

/-- The launch's region. -/
theorem hmain' : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The launch: every array ends at what the proof data says, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain' m) (hA := A_eq m)
    (hin := fun c => by rw [phi_eq]; exact inv_in m c) (hout := fun c => by rw [phi_eq]; exact inv_out m c)

/-- The frame: every argument as it was, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      (h.1 c).2 main_arg3 (Pipeline.mem_restRefs_of main_arg3 (by decide) (by decide)),
      ((h.1 c).1 3).trans (((dats m 0 c).arrAt_in 3 rfl _).trans (A_eq m c 3)),
      ((h.1 c).1 4).trans (((dats m 0 c).arrAt_in 4 rfl _).trans (A_eq m c 4))⟩, h.2⟩) (run_main m ρ)

end Cert.FfnIdeal.Ff

end
-- ==== Proof.FfnPay.lean ====
/- The feed-forward call's stored values and the reference's, read at one row and column. -/
module

public import proofs.«01_k».proof.Proof.Gen.FfnIdeal.Skeleton
public import proofs.«01_k».proof.Proof.Gen.FfnReferenceIdeal.Read
public import Idealize.ShloMosaic.Lib.Pointwise

@[expose] public section

set_option maxRecDepth 16384

noncomputable section

namespace Cert.FfnIdeal.Ff

open Idealize.ShloMosaic Cert.FfnIdeal Cert.FfnIdeal.Gen

/-- The square of what is positive of a number: the layer's activation. -/
def act (x : EReal) : EReal := max x 0 * max x 0

/-- The row scale and the two gains applied to an entry `y` of a row whose squares sum to `s`, added to `x`. -/
def outE (x y s gt gp : EReal) : EReal :=
  x + y * Ideal.rsqrt (Ideal.div s (Ideal.ofBits .f32 0x45000000#32) + Ideal.ofBits .f32 0x358637BD#32) * (gt * gp)

variable (h : Vec Ideal S512x2048 .bf16) (w1 w2 : Vec Ideal S2048x2048 .bf16) (o x : Vec Ideal S512x2048 .f32) (gt gp : Vec Ideal S1x2048 .f32)

/-- The first chunk's store: the chunk's sum. -/
theorem pay1_apply (r : Fin 512) (l : Fin 2048) :
    k0_pay1 h w1 w2 (ix2 r l) = ∑ f : Fin 2048, act (∑ d : Fin 2048, h (ix2 r d) * w1 (ix2 d f)) * w2 (ix2 f l) := by
  unfold act
  rw [← Ideal.ofBits_zero_f32]
  pointwise [k0_pay1]

/-- A later chunk's store: what was there, plus the chunk's sum. -/
theorem pay2_apply (r : Fin 512) (l : Fin 2048) :
    k0_pay2 o h w1 w2 (ix2 r l) = o (ix2 r l) + ∑ f : Fin 2048, act (∑ d : Fin 2048, h (ix2 r d) * w1 (ix2 d f)) * w2 (ix2 f l) := by
  unfold act
  rw [← Ideal.ofBits_zero_f32]
  pointwise [k0_pay2]

/-- The last chunk's final store: the row scaled, gained and added to its residual. -/
theorem pay3_apply (r : Fin 512) (l : Fin 2048) :
    k0_pay3 o x gt gp (ix2 r l) = outE (x (ix2 r l)) (o (ix2 r l)) (∑ k : Fin 2048, o (ix2 r k) * o (ix2 r k)) (gt (ix2 0 l)) (gp (ix2 0 l)) := by
  unfold outE
  pointwise [k0_pay3]

end Cert.FfnIdeal.Ff

namespace Cert.FfnReferenceIdeal.Ff

open Idealize.ShloMosaic Cert.FfnReferenceIdeal Cert.FfnReferenceIdeal.Gen Cert.FfnReferenceIdeal.Read
open Cert.FfnIdeal.Ff (act outE)

variable (x0 : (⟨S16384x2048, .bf16⟩ : BufTy).Contents (Elt Ideal)) (x1 : (⟨S2048x8192, .bf16⟩ : BufTy).Contents (Elt Ideal))
  (x2 : (⟨S8192x2048, .bf16⟩ : BufTy).Contents (Elt Ideal)) (x3 : (⟨S16384x2048, .f32⟩ : BufTy).Contents (Elt Ideal))
  (x4 x5 : (⟨S1x2048, .f32⟩ : BufTy).Contents (Elt Ideal))

/-- The reference's second product at a row and column. -/
theorem v6_apply (R : Fin 16384) (l : Fin 2048) :
    val_main_v6 (F := Ideal) x0 x1 x2 (ix2 R l) = ∑ f : Fin 8192, act (∑ d : Fin 2048, x0 (ix2 R d) * x1 (ix2 d f)) * x2 (ix2 f l) := by
  unfold act
  rw [← Ideal.ofBits_zero_f32]
  pointwise [val_main_v6, val_main_v5, val_main_v4, val_main_v3, val_main_call0_v0, val_main_call0_cst, val_main_v2, val_main_v1, val_main_v0]

/-- The reference's result at a row and column. -/
theorem v21_apply (R : Fin 16384) (l : Fin 2048) :
    val_main_v21 (F := Ideal) x0 x1 x2 x3 x4 x5 (ix2 R l)
      = outE (x3 (ix2 R l)) (val_main_v6 (F := Ideal) x0 x1 x2 (ix2 R l))
          (∑ k : Fin 2048, val_main_v6 (F := Ideal) x0 x1 x2 (ix2 R k) * val_main_v6 (F := Ideal) x0 x1 x2 (ix2 R k)) (x5 (ix2 0 l)) (x4 (ix2 0 l)) := by
  have e : val_main_v21 (F := Ideal) x0 x1 x2 x3 x4 x5 (ix2 R l)
      = x3 (ix2 R l) + x5 (ix2 0 l) * (val_main_v6 (F := Ideal) x0 x1 x2 (ix2 R l)
          * Ideal.rsqrt (Ideal.div (Ideal.ofBits .f32 0x00000000#32 + ∑ k : Fin 2048, val_main_v6 (F := Ideal) x0 x1 x2 (ix2 R k) * val_main_v6 (F := Ideal) x0 x1 x2 (ix2 R k))
              (Ideal.ofBits .f32 0x45000000#32) + Ideal.ofBits .f32 0x358637BD#32) * x4 (ix2 0 l)) := by
    pointwise [val_main_v21, val_main_v20, val_main_v19, val_main_v18, val_main_v17, val_main_v16, val_main_v15, val_main_v14, val_main_v13, val_main_v12,
      val_main_v11, val_main_v10, val_main_v9, val_main_v8, val_main_v7, val_main_cst, val_main_cst_0, val_main_cst_1]
  rw [e, Ideal.ofBits_zero_f32, zero_add, mul_left_comm]
  rfl

end Cert.FfnReferenceIdeal.Ff

end
-- ==== Proof.FfnFinal.lean ====
/- The array the feed-forward call leaves over the reals: what the reference computes of the same arguments. -/
module

public import proofs.«01_k».proof.Proof.FfnPay
public import proofs.«01_k».proof.Proof.FfnIdealRun
public import Idealize.ShloMosaic.Lib.Pipeline.ValueKit.Geometry
public import Idealize.ShloMosaic.Lib.Pipeline.ValueKit.Tiles

@[expose] public section

set_option maxRecDepth 16384

noncomputable section

namespace Cert.FfnIdeal.Ff

open Idealize.ShloMosaic Idealize.ShloMosaic.TcCoe Cert.FfnIdeal Cert.FfnIdeal.Gen

variable (m : (ℓ : Loc nD τ sig) → Buf (Elt Ideal) ℓ)

/-! ## The sum over the hidden columns -/

/-- Hidden column `f`'s share of row `R`, column `l` of the second product. -/
def term (x0 : Vec Ideal S16384x2048 .bf16) (x1 : Vec Ideal S2048x8192 .bf16) (x2 : Vec Ideal S8192x2048 .bf16) (R : Fin 16384) (l : Fin 2048) (f : ℕ) : EReal :=
  if hf : f < 8192 then act (∑ d : Fin 2048, x0 (ix2 R d) * x1 (ix2 d ⟨f, hf⟩)) * x2 (ix2 ⟨f, hf⟩ l) else 0

/-- The reference's second product is the sum of all the shares. -/
theorem v6_range (x0 : Vec Ideal S16384x2048 .bf16) (x1 : Vec Ideal S2048x8192 .bf16) (x2 : Vec Ideal S8192x2048 .bf16) (R : Fin 16384) (l : Fin 2048) :
    Cert.FfnReferenceIdeal.Read.val_main_v6 (F := Ideal) x0 x1 x2 (ix2 R l) = ∑ f ∈ Finset.range 8192, term x0 x1 x2 R l f := by
  rw [Cert.FfnReferenceIdeal.Ff.v6_apply, Finset.sum_range]
  exact Finset.sum_congr rfl fun f _ => (show term x0 x1 x2 R l f.val = _ from dif_pos f.isLt).symm

/-! ## The blocks a grid point reads -/

/-- Where window 0 stands at a grid point: its row tile. -/
theorem e0 : ∀ t : Fin grid0.N, win0_0.index t = ![t.val / 4, 0] := by decide +kernel

/-- Where window 1 stands at a grid point: its chunk of hidden columns. -/
theorem e1 : ∀ t : Fin grid0.N, win0_1.index t = ![0, t.val % 4] := by decide +kernel

/-- Where window 2 stands at a grid point: its chunk of hidden columns. -/
theorem e2 : ∀ t : Fin grid0.N, win0_2.index t = ![t.val % 4, 0] := by decide +kernel

/-- Window 3 is the whole gain row. -/
theorem e3 : ∀ t : Fin grid0.N, win0_3.index t = ![0, 0] := by decide +kernel

/-- Window 4 is the whole gate row. -/
theorem e4 : ∀ t : Fin grid0.N, win0_4.index t = ![0, 0] := by decide +kernel

/-- Where window 5 stands at a grid point: its row tile. -/
theorem e5 : ∀ t : Fin grid0.N, win0_5.index t = ![t.val / 4, 0] := by decide +kernel

/-- Where the copy of the residual starts: the row tile's first row. -/
theorem eoff : ∀ t : Fin grid0.N, k0_off1 (grid0.coords (pt (4 * (t.val / 4)))) = ![512 * (t.val / 4), 0] := by decide +kernel

/-- A buffer of the initial memory, at a device. -/
abbrev arg (c : Dev nD) (b : Ref sig .tc) := m ((c.tc : Thread nD τ).loc b)

/-- The activations' block holds the row tile's rows of the argument. -/
theorem blk0 (c : Dev nD) (t : Fin cfg0.N) (r : Fin 512) (d : Fin 2048) (R : Fin 16384) (hR : R.val = 512 * (t.val / 4) + r.val) :
    iblk m c 0 t (ix2 r d) = arg m c main_arg0 (ix2 R d) := by
  blk_simp [iblk]
  refine congrArg (arg m c main_arg0) ?_
  blk_ext [e0]

/-- The first weight's block holds the chunk's columns of the argument. -/
theorem blk1 (c : Dev nD) (t : Fin cfg0.N) (d f : Fin 2048) (K : Fin 8192) (hK : K.val = 2048 * (t.val % 4) + f.val) :
    iblk m c 1 t (ix2 d f) = arg m c main_arg1 (ix2 d K) := by
  blk_simp [iblk]
  refine congrArg (arg m c main_arg1) ?_
  blk_ext [e1]

/-- The second weight's block holds the chunk's rows of the argument. -/
theorem blk2 (c : Dev nD) (t : Fin cfg0.N) (f l : Fin 2048) (K : Fin 8192) (hK : K.val = 2048 * (t.val % 4) + f.val) :
    iblk m c 2 t (ix2 f l) = arg m c main_arg2 (ix2 K l) := by
  blk_simp [iblk]
  refine congrArg (arg m c main_arg2) ?_
  blk_ext [e2]

/-- The gain's block is the whole argument. -/
theorem blk3 (c : Dev nD) (t : Fin cfg0.N) (l : Fin 2048) : iblk m c 3 t (ix2 0 l) = arg m c main_arg4 (ix2 0 l) := by
  blk_simp [iblk]
  refine congrArg (arg m c main_arg4) ?_
  blk_ext [e3]

/-- The gate's block is the whole argument. -/
theorem blk4 (c : Dev nD) (t : Fin cfg0.N) (l : Fin 2048) : iblk m c 4 t (ix2 0 l) = arg m c main_arg5 (ix2 0 l) := by
  blk_simp [iblk]
  refine congrArg (arg m c main_arg5) ?_
  blk_ext [e4]

/-- The copied residual tile holds the argument's rows. -/
theorem xtile_apply (c : Dev nD) (t : Fin cfg0.N) (r : Fin 512) (l : Fin 2048) (R : Fin 16384) (hR : R.val = 512 * (t.val / 4) + r.val) :
    xtile m c t.val (ix2 r l) = arg m c main_arg3 (ix2 R l) := by
  unfold xtile start
  blk_simp [V]
  refine congrArg (arg m c main_arg3) ?_
  have e := eoff t
  funext a
  refine Fin.ext ?_
  match a with
  | ⟨0, _⟩ =>
      show k0_off1 (grid0.coords (pt (4 * (t.val / 4)))) 0 + 1 * r.val = R.val
      rw [e, hR, Nat.one_mul]
      rfl
  | ⟨1, _⟩ =>
      show k0_off1 (grid0.coords (pt (4 * (t.val / 4)))) 1 + 1 * l.val = l.val
      rw [e, Nat.one_mul]
      exact Nat.zero_add _

/-! ## What the result's buffer accumulates -/

/-- A chunk's sum is its hidden columns' shares. -/
theorem chunk_of (x0 : Vec Ideal S16384x2048 .bf16) (x1 : Vec Ideal S2048x8192 .bf16) (x2 : Vec Ideal S8192x2048 .bf16)
    (h : Vec Ideal S512x2048 .bf16) (w1 w2 : Vec Ideal S2048x2048 .bf16) (q : ℕ) (hq : q < 4) (r : Fin 512) (l : Fin 2048) (R : Fin 16384)
    (h0 : ∀ d, h (ix2 r d) = x0 (ix2 R d)) (h1 : ∀ (d f : Fin 2048) (K : Fin 8192), K.val = 2048 * q + f.val → w1 (ix2 d f) = x1 (ix2 d K))
    (h2 : ∀ (f : Fin 2048) (K : Fin 8192), K.val = 2048 * q + f.val → w2 (ix2 f l) = x2 (ix2 K l)) :
    (∑ f : Fin 2048, act (∑ d : Fin 2048, h (ix2 r d) * w1 (ix2 d f)) * w2 (ix2 f l)) = ∑ f ∈ Finset.range 2048, term x0 x1 x2 R l (2048 * q + f) := by
  rw [Finset.sum_range]
  refine Finset.sum_congr rfl fun f _ => ?_
  have h := f.isLt
  have hf : 2048 * q + f.val < 8192 := by omega
  unfold term
  rw [dif_pos hf, h2 f ⟨_, hf⟩ rfl]
  simp only [h0, h1 _ f ⟨_, hf⟩ rfl]

/-- After a row tile's chunk `j` the buffer holds the shares of the hidden columns so far. -/
theorem acc_apply (c : Dev nD) (r : Fin 512) (l : Fin 2048) : ∀ (j : ℕ) (t : Fin cfg0.N) (ht : t.val % 4 = j) (R : Fin 16384) (hR : R.val = 512 * (t.val / 4) + r.val),
    acc m c t.val (ix2 r l) = ∑ f ∈ Finset.range (2048 * (j + 1)), term (arg m c main_arg0) (arg m c main_arg1) (arg m c main_arg2) R l f
  | 0, t, ht, R, hR => by
      rw [acc_first m c t ht, pay1_apply]
      refine (chunk_of (arg m c main_arg0) (arg m c main_arg1) (arg m c main_arg2) (iblk m c 0 t) (iblk m c 1 t) (iblk m c 2 t) (t.val % 4) (Nat.mod_lt _ (by decide)) r l R
        (fun d => blk0 m c t r d R hR) (fun d f K hK => blk1 m c t d f K hK) (fun f K hK => blk2 m c t f l K hK)).trans ?_
      rw [ht]
      simp only [Nat.mul_zero, Nat.zero_add, Nat.mul_one]
  | j + 1, t, ht, R, hR => by
      have hlt := t.isLt
      have e := acc_apply c r l j ⟨t.val - 1, by omega⟩ (by show (t.val - 1) % 4 = j; omega) R (by show R.val = 512 * ((t.val - 1) / 4) + r.val; omega)
      rw [acc_next m c t (by omega), pay2_apply, show 2048 * (j + 1 + 1) = 2048 * (j + 1) + 2048 by ring, Finset.sum_range_add]
      refine congrArg₂ (· + ·) e ((chunk_of (arg m c main_arg0) (arg m c main_arg1) (arg m c main_arg2) (iblk m c 0 t) (iblk m c 1 t) (iblk m c 2 t) (t.val % 4) (Nat.mod_lt _ (by decide)) r l R
        (fun d => blk0 m c t r d R hR) (fun d f K hK => blk1 m c t d f K hK) (fun f K hK => blk2 m c t f l K hK)).trans ?_)
      rw [ht]

/-- After the last chunk the buffer holds the reference's second product. -/
theorem acc_last (c : Dev nD) (t : Fin cfg0.N) (ht : t.val % 4 = 3) (r : Fin 512) (l : Fin 2048) (R : Fin 16384) (hR : R.val = 512 * (t.val / 4) + r.val) :
    acc m c t.val (ix2 r l) = Cert.FfnReferenceIdeal.Read.val_main_v6 (F := Ideal) (arg m c main_arg0) (arg m c main_arg1) (arg m c main_arg2) (ix2 R l) := by
  rw [acc_apply m c r l 3 t ht R hR]
  exact (v6_range _ _ _ R l).symm

/-- The result is written back where a row tile is done. -/
theorem flushed : ∀ t : Fin grid0.N, (cfg0.win 5).flush t = true → t.val % 4 = 3 := by decide +kernel

/-- The call's array after the run: the reference's result. -/
theorem final5 (c : Dev nD) :
    (dats m 0 c).arrAt 5 cfg0.N
      = Cert.FfnReferenceIdeal.Read.val_main_v21 (F := Ideal) (arg m c main_arg0) (arg m c main_arg1) (arg m c main_arg2) (arg m c main_arg3) (arg m c main_arg4) (arg m c main_arg5) := by
  refine (dats m 0 c).arrAt_eq_of_covers 5 _ (by decide +kernel) fun t hfl y => ?_
  have ht : t.val % 4 = 3 := flushed t hfl
  blk_simp
  rw [after0_5]
  idx_vars y
  unfold out5
  rw [if_pos ht]
  generalize hz : ((View.whole main_v0).slice (win0_5.rect t)).emb (ix2 y0 y1) = z
  have h0 : (z 0).val = 512 * (t.val / 4) + y0.val := by rw [← hz]; blk_simp [e5]; ring
  have h1 : z 1 = y1 := by refine Fin.ext ?_; rw [← hz]; blk_simp [e5]
  clear hz
  idx_vars z
  obtain rfl : z1 = y1 := h1
  refine (pay3_apply _ _ _ _ y0 z1).trans (Eq.trans ?_ (Cert.FfnReferenceIdeal.Ff.v21_apply _ _ _ _ _ _ z0 z1).symm)
  simp only [acc_last m c t ht y0 _ z0 h0, xtile_apply m c t y0 z1 z0 h0, blk3, blk4]

end Cert.FfnIdeal.Ff

end
-- ==== Proof.OutPay.lean ====
/- The output projection's stored values and the reference's, read at one row and column. -/
module

public import proofs.«01_k».proof.Proof.Gen.OutpIdeal.Skeleton
public import proofs.«01_k».proof.Proof.Gen.OutpReferenceIdeal.Read
public import Idealize.ShloMosaic.Lib.Pointwise

@[expose] public section

set_option maxRecDepth 16384

noncomputable section

namespace Cert.OutpIdeal.Op

open Idealize.ShloMosaic Cert.OutpIdeal Cert.OutpIdeal.Gen

/-- The factor that brings a row to root mean square one; `n` is the row's length, as a float's word. -/
def rms {N : ℕ} (n : BitVec 32) (b : Fin N → EReal) : EReal :=
  Ideal.rsqrt (Ideal.div (∑ k, b k * b k) (Ideal.ofBits .f32 n) + Ideal.ofBits .f32 0x358637BD#32)

/-- One entry of the projected row: the recurrent half, and the normed attention half, against a column of the weight. -/
def mix (a b g wl wa : Fin 1024 → EReal) : EReal :=
  (∑ k, a k * wl k) + ∑ k, b k * rms 0x44800000#32 b * g k * wa k

variable (ya yl : Vec Ideal S512x1024 .bf16) (g : Vec Ideal S1x1024 .f32) (wl wa : Vec Ideal S1024x2048 .bf16)
  (x y : Vec Ideal S512x2048 .f32) (gt gp g2 sc sh : Vec Ideal S1x2048 .f32)

/-- A tile's projected row, before the norm. -/
def proj (r : Fin 512) (l : Fin 2048) : EReal :=
  mix (fun k => yl (ix2 r k)) (fun k => ya (ix2 r k)) (fun k => g (ix2 0 k)) (fun k => wl (ix2 k l)) (fun k => wa (ix2 k l))

/-- The projected row, normed. -/
theorem pay3_apply (r : Fin 512) (l : Fin 2048) :
    k0_pay3 ya g yl wl wa (ix2 r l) = proj ya yl g wl wa r l * rms 0x45000000#32 (fun k => proj ya yl g wl wa r k) := by
  unfold proj mix rms
  pointwise [k0_pay3]

/-- The first result's store: the normed row with its gains, added to the residual. -/
theorem pay1_apply (r : Fin 512) (l : Fin 2048) :
    k0_pay1 x y gt gp (ix2 r l) = x (ix2 r l) + y (ix2 r l) * (gt (ix2 0 l) * gp (ix2 0 l)) := by
  pointwise [k0_pay1]

/-- The second result's store: the first result's row, normed and modulated. -/
theorem pay2_apply (r : Fin 512) (l : Fin 2048) :
    k0_pay2 x y gt gp g2 sc sh (ix2 r l)
      = k0_pay1 x y gt gp (ix2 r l) * rms 0x45000000#32 (fun k => k0_pay1 x y gt gp (ix2 r k))
          * (g2 (ix2 0 l) * (Ideal.ofBits .f32 0x3F800000#32 + sc (ix2 0 l))) + sh (ix2 0 l) := by
  unfold rms
  pointwise [k0_pay2]

end Cert.OutpIdeal.Op

namespace Cert.OutpReferenceIdeal.Op

open Idealize.ShloMosaic Cert.OutpReferenceIdeal Cert.OutpReferenceIdeal.Gen Cert.OutpReferenceIdeal.Read
open Cert.OutpIdeal.Op (rms mix)

variable (x0 x1 : (⟨S16384x1024, .bf16⟩ : BufTy).Contents (Elt Ideal)) (x2 : (⟨S16384x2048, .f32⟩ : BufTy).Contents (Elt Ideal))
  (x3 : (⟨S1x1024, .f32⟩ : BufTy).Contents (Elt Ideal)) (x4 : (⟨S2048x2048, .bf16⟩ : BufTy).Contents (Elt Ideal))
  (x5 x6 x7 x8 x9 : (⟨S1x2048, .f32⟩ : BufTy).Contents (Elt Ideal))

/-- The reference's normed attention half. -/
theorem v13_apply (R : Fin 16384) (k : Fin 1024) :
    val_main_v13 (F := Ideal) x1 x3 (ix2 R k) = x1 (ix2 R k) * rms 0x44800000#32 (fun k => x1 (ix2 R k)) * x3 (ix2 0 k) := by
  have e : val_main_v13 (F := Ideal) x1 x3 (ix2 R k) = x1 (ix2 R k)
      * Ideal.rsqrt (Ideal.div (Ideal.ofBits .f32 0x00000000#32 + ∑ k : Fin 1024, x1 (ix2 R k) * x1 (ix2 R k)) (Ideal.ofBits .f32 0x44800000#32) + Ideal.ofBits .f32 0x358637BD#32)
      * x3 (ix2 0 k) := by
    pointwise [val_main_v13, val_main_v12, val_main_v11, val_main_v10, val_main_v9, val_main_v8, val_main_v7, val_main_v6, val_main_v5, val_main_v4, val_main_v3,
      val_main_v2, val_main_v1, val_main_cst, val_main_cst_0, val_main_cst_1]
  rw [e, Ideal.ofBits_zero_f32, zero_add]
  rfl

/-- The two halves side by side: a column of the first. -/
theorem v14_left (R : Fin 16384) (k : Fin 1024) (p : k.val < 2048) :
    val_main_v14 (F := Ideal) x0 x1 x3 (ix2 R ⟨k.val, p⟩) = x0 (ix2 R k) := by
  unfold val_main_v14
  exact concatenate_pair_apply_left (t := S16384x2048) (s₁ := S16384x1024) (s₂ := S16384x1024) 1 _ _ _ (ix2 R (⟨k.val, p⟩ : Fin 2048)) rfl (ix2 R k) (fun b => match b with | ⟨0, _⟩ => rfl | ⟨1, _⟩ => rfl)

/-- The two halves side by side: a column of the second. -/
theorem v14_right (R : Fin 16384) (k : Fin 1024) (p : 1024 + k.val < 2048) :
    val_main_v14 (F := Ideal) x0 x1 x3 (ix2 R ⟨1024 + k.val, p⟩) = val_main_v13 (F := Ideal) x1 x3 (ix2 R k) := by
  unfold val_main_v14
  exact concatenate_pair_apply_right (t := S16384x2048) (s₁ := S16384x1024) (s₂ := S16384x1024) 1 _ _ _ (ix2 R (⟨1024 + k.val, p⟩ : Fin 2048)) rfl rfl (ix2 R k) (fun b hb => match b with | ⟨0, _⟩ => rfl | ⟨1, _⟩ => absurd rfl hb) (show k.val + 1024 = 1024 + k.val from Nat.add_comm _ _)

/-- The reference's product is the sum of the halves' products. -/
theorem v16_apply (R : Fin 16384) (l : Fin 2048) :
    val_main_v16 (F := Ideal) x0 x1 x3 x4 (ix2 R l)
      = mix (fun k => x0 (ix2 R k)) (fun k => x1 (ix2 R k)) (fun k => x3 (ix2 0 k))
          (fun k => x4 (ix2 ⟨k.val, by omega⟩ l)) (fun k => x4 (ix2 ⟨1024 + k.val, by omega⟩ l)) := by
  have e : val_main_v16 (F := Ideal) x0 x1 x3 x4 (ix2 R l) = ∑ k : Fin 2048, val_main_v14 (F := Ideal) x0 x1 x3 (ix2 R k) * x4 (ix2 k l) := by
    pointwise [val_main_v16, val_main_v15]
  rw [e, Fin.sum_univ_add (a := 1024) (b := 1024) (fun k : Fin (1024 + 1024) => val_main_v14 (F := Ideal) x0 x1 x3 (ix2 R k) * x4 (ix2 k l))]
  unfold mix
  refine congrArg₂ (· + ·) (Finset.sum_congr rfl fun k _ => ?_) (Finset.sum_congr rfl fun k _ => ?_)
  · exact congrArg (· * _) (v14_left x0 x1 x3 R k (by omega))
  · exact congrArg (· * _) ((v14_right x0 x1 x3 R k (by omega)).trans (v13_apply x1 x3 R k))

/-- The reference's first result. -/
theorem v31_apply (R : Fin 16384) (l : Fin 2048) :
    val_main_v31 (F := Ideal) x0 x1 x2 x3 x4 x5 x6 (ix2 R l)
      = x2 (ix2 R l) + val_main_v16 (F := Ideal) x0 x1 x3 x4 (ix2 R l) * rms 0x45000000#32 (fun k => val_main_v16 (F := Ideal) x0 x1 x3 x4 (ix2 R k))
          * (x6 (ix2 0 l) * x5 (ix2 0 l)) := by
  have e : val_main_v31 (F := Ideal) x0 x1 x2 x3 x4 x5 x6 (ix2 R l)
      = x2 (ix2 R l) + x6 (ix2 0 l) * (val_main_v16 (F := Ideal) x0 x1 x3 x4 (ix2 R l)
          * Ideal.rsqrt (Ideal.div (Ideal.ofBits .f32 0x00000000#32 + ∑ k : Fin 2048, val_main_v16 (F := Ideal) x0 x1 x3 x4 (ix2 R k) * val_main_v16 (F := Ideal) x0 x1 x3 x4 (ix2 R k))
              (Ideal.ofBits .f32 0x45000000#32) + Ideal.ofBits .f32 0x358637BD#32) * x5 (ix2 0 l)) := by
    pointwise [val_main_v31, val_main_v30, val_main_v29, val_main_v28, val_main_v27, val_main_v26, val_main_v25, val_main_v24, val_main_v23, val_main_v22,
      val_main_v21, val_main_v20, val_main_v19, val_main_v18, val_main_v17, val_main_cst_2, val_main_cst_3, val_main_cst_4]
  rw [e, Ideal.ofBits_zero_f32, zero_add, mul_left_comm]
  rfl

/-- The reference's second result. -/
theorem v50_apply (R : Fin 16384) (l : Fin 2048) :
    val_main_v50 (F := Ideal) x0 x1 x2 x3 x4 x5 x6 x7 x8 x9 (ix2 R l)
      = val_main_v31 (F := Ideal) x0 x1 x2 x3 x4 x5 x6 (ix2 R l) * rms 0x45000000#32 (fun k => val_main_v31 (F := Ideal) x0 x1 x2 x3 x4 x5 x6 (ix2 R k))
          * (x7 (ix2 0 l) * (Ideal.ofBits .f32 0x3F800000#32 + x9 (ix2 0 l))) + x8 (ix2 0 l) := by
  have e : val_main_v50 (F := Ideal) x0 x1 x2 x3 x4 x5 x6 x7 x8 x9 (ix2 R l)
      = val_main_v31 (F := Ideal) x0 x1 x2 x3 x4 x5 x6 (ix2 R l)
          * Ideal.rsqrt (Ideal.div (Ideal.ofBits .f32 0x00000000#32
                + ∑ k : Fin 2048, val_main_v31 (F := Ideal) x0 x1 x2 x3 x4 x5 x6 (ix2 R k) * val_main_v31 (F := Ideal) x0 x1 x2 x3 x4 x5 x6 (ix2 R k))
              (Ideal.ofBits .f32 0x45000000#32) + Ideal.ofBits .f32 0x358637BD#32) * x7 (ix2 0 l) * (Ideal.ofBits .f32 0x3F800000#32 + x9 (ix2 0 l)) + x8 (ix2 0 l) := by
    pointwise [val_main_v50, val_main_v49, val_main_v48, val_main_v47, val_main_v46, val_main_v45, val_main_v44, val_main_v43, val_main_v42,
      val_main_v41, val_main_v40, val_main_v39, val_main_v38, val_main_v37, val_main_v36, val_main_v35, val_main_v34, val_main_v33, val_main_v32,
      val_main_cst_5, val_main_cst_6, val_main_cst_7, val_main_cst_8]
  rw [e, Ideal.ofBits_zero_f32, zero_add, mul_assoc _ (x7 _)]
  rfl

end Cert.OutpReferenceIdeal.Op

end
-- ==== Proof.OutFinal.lean ====
/- The arrays the output projection leaves over the reals: what the reference computes of the same arguments. -/
module

public import proofs.«01_k».proof.Proof.OutPay
public import proofs.«01_k».proof.Proof.Gen.OutpIdeal.Value
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.OutpIdeal.Op

open Idealize.ShloMosaic Idealize.ShloMosaic.TcCoe Cert.OutpIdeal Cert.OutpIdeal.Gen

variable (m : (ℓ : Loc nD τ sig) → Buf (Elt Ideal) ℓ)

/-! ## The blocks a grid point reads -/

/-- The row tiles: windows 0, 1, 2, 11 and 12 stand at the point's tile. -/
theorem e_tile : ∀ t : Fin grid0.N, win0_0.index t = ![t.val, 0] ∧ win0_1.index t = ![t.val, 0] ∧ win0_2.index t = ![t.val, 0]
    ∧ win0_11.index t = ![t.val, 0] ∧ win0_12.index t = ![t.val, 0] := by decide +kernel

/-- The gain of the attention half and the two halves of the weight. -/
theorem e_weight : ∀ t : Fin grid0.N, win0_3.index t = ![0, 0] ∧ win0_4.index t = ![0, 0] ∧ win0_5.index t = ![1, 0] := by decide +kernel

/-- The five rows of gains, gates and shifts, whole. -/
theorem e_row : ∀ t : Fin grid0.N, win0_6.index t = ![0, 0] ∧ win0_7.index t = ![0, 0] ∧ win0_8.index t = ![0, 0]
    ∧ win0_9.index t = ![0, 0] ∧ win0_10.index t = ![0, 0] := by decide +kernel

/-- A buffer of the initial memory, at a device. -/
abbrev arg (c : Dev nD) (b : Ref sig .tc) := m ((c.tc : Thread nD τ).loc b)

/-- The recurrent half's block holds the tile's rows of the argument. -/
theorem blk0 (c : Dev nD) (t : Fin cfg0.N) (r : Fin 512) (k : Fin 1024) (R : Fin 16384) (hR : R.val = 512 * t.val + r.val) :
    iblk m c 0 t (ix2 r k) = arg m c main_arg0 (ix2 R k) := by
  blk_simp [iblk]
  refine congrArg (arg m c main_arg0) ?_
  blk_ext [(e_tile t).1]

/-- The attention half's block holds the tile's rows of the argument. -/
theorem blk1 (c : Dev nD) (t : Fin cfg0.N) (r : Fin 512) (k : Fin 1024) (R : Fin 16384) (hR : R.val = 512 * t.val + r.val) :
    iblk m c 1 t (ix2 r k) = arg m c main_arg1 (ix2 R k) := by
  blk_simp [iblk]
  refine congrArg (arg m c main_arg1) ?_
  blk_ext [(e_tile t).2.1]

/-- The residual's block holds the tile's rows of the argument. -/
theorem blk2 (c : Dev nD) (t : Fin cfg0.N) (r : Fin 512) (l : Fin 2048) (R : Fin 16384) (hR : R.val = 512 * t.val + r.val) :
    iblk m c 2 t (ix2 r l) = arg m c main_arg2 (ix2 R l) := by
  blk_simp [iblk]
  refine congrArg (arg m c main_arg2) ?_
  blk_ext [(e_tile t).2.2.1]

/-- The attention half's gain, whole. -/
theorem blk3 (c : Dev nD) (t : Fin cfg0.N) (k : Fin 1024) : iblk m c 3 t (ix2 0 k) = arg m c main_arg3 (ix2 0 k) := by
  blk_simp [iblk]
  refine congrArg (arg m c main_arg3) ?_
  blk_ext [(e_weight t).1]

/-- The weight's upper half. -/
theorem blk4 (c : Dev nD) (t : Fin cfg0.N) (k : Fin 1024) (l : Fin 2048) (p : k.val < 2048) :
    iblk m c 4 t (ix2 k l) = arg m c main_arg4 (ix2 ⟨k.val, p⟩ l) := by
  blk_simp [iblk]
  refine congrArg (arg m c main_arg4) ?_
  blk_ext [(e_weight t).2.1]

/-- The weight's lower half. -/
theorem blk5 (c : Dev nD) (t : Fin cfg0.N) (k : Fin 1024) (l : Fin 2048) (p : 1024 + k.val < 2048) :
    iblk m c 5 t (ix2 k l) = arg m c main_arg4 (ix2 ⟨1024 + k.val, p⟩ l) := by
  blk_simp [iblk]
  refine congrArg (arg m c main_arg4) ?_
  blk_ext [(e_weight t).2.2]

/-- The first norm's gain, whole. -/
theorem blk6 (c : Dev nD) (t : Fin cfg0.N) (l : Fin 2048) : iblk m c 6 t (ix2 0 l) = arg m c main_arg5 (ix2 0 l) := by
  blk_simp [iblk]
  refine congrArg (arg m c main_arg5) ?_
  blk_ext [(e_row t).1]

/-- The gate, whole. -/
theorem blk7 (c : Dev nD) (t : Fin cfg0.N) (l : Fin 2048) : iblk m c 7 t (ix2 0 l) = arg m c main_arg6 (ix2 0 l) := by
  blk_simp [iblk]
  refine congrArg (arg m c main_arg6) ?_
  blk_ext [(e_row t).2.1]

/-- The second norm's gain, whole. -/
theorem blk8 (c : Dev nD) (t : Fin cfg0.N) (l : Fin 2048) : iblk m c 8 t (ix2 0 l) = arg m c main_arg7 (ix2 0 l) := by
  blk_simp [iblk]
  refine congrArg (arg m c main_arg7) ?_
  blk_ext [(e_row t).2.2.1]

/-- The shift, whole. -/
theorem blk9 (c : Dev nD) (t : Fin cfg0.N) (l : Fin 2048) : iblk m c 9 t (ix2 0 l) = arg m c main_arg8 (ix2 0 l) := by
  blk_simp [iblk]
  refine congrArg (arg m c main_arg8) ?_
  blk_ext [(e_row t).2.2.2.1]

/-- The scale, whole. -/
theorem blk10 (c : Dev nD) (t : Fin cfg0.N) (l : Fin 2048) : iblk m c 10 t (ix2 0 l) = arg m c main_arg9 (ix2 0 l) := by
  blk_simp [iblk]
  refine congrArg (arg m c main_arg9) ?_
  blk_ext [(e_row t).2.2.2.2]

/-! ## What a grid point leaves -/

section Out
variable (x0 x1 : Vec Ideal S512x1024 .bf16) (x2 : Vec Ideal S512x2048 .f32) (x3 : Vec Ideal S1x1024 .f32) (x4 x5 : Vec Ideal S1024x2048 .bf16)
  (x6 x7 x8 x9 x10 : Vec Ideal S1x2048 .f32)

/-- The normed projected row of the point's blocks is the payload's. -/
theorem pay4_eq : k0_pay4 x0 x1 x2 x3 x4 x5 x6 x7 x8 x9 x10 = k0_pay3 x1 x3 x0 x4 x5 := by
  unfold k0_pay4
  simp (disch := decide) only [View.ld_unit_lit']

/-- The first result's block is one payload of the point's blocks. -/
theorem out11_eq : out0_11 x0 x1 x2 x3 x4 x5 x6 x7 x8 x9 x10 = k0_pay1 x2 (k0_pay3 x1 x3 x0 x4 x5) x7 x6 := by
  unfold out0_11
  rw [pay4_eq]
  refine (View.canon_cons_unit_lit' _ _ _ (by decide)).trans ?_
  simp (disch := decide) only [View.ld_unit_lit']

/-- The second result's block is one payload of the point's blocks. -/
theorem out12_eq : out0_12 x0 x1 x2 x3 x4 x5 x6 x7 x8 x9 x10 = k0_pay2 x2 (k0_pay3 x1 x3 x0 x4 x5) x7 x6 x8 x10 x9 := by
  unfold out0_12
  rw [pay4_eq]
  refine (View.canon_cons_unit_lit' _ _ _ (by decide)).trans ?_
  simp (disch := decide) only [View.ld_unit_lit']

end Out

/-- A point's projected row is the reference's product. -/
theorem proj_eq (c : Dev nD) (t : Fin cfg0.N) (r : Fin 512) (l : Fin 2048) (R : Fin 16384) (hR : R.val = 512 * t.val + r.val) :
    proj (iblk m c 1 t) (iblk m c 0 t) (iblk m c 3 t) (iblk m c 4 t) (iblk m c 5 t) r l
      = Cert.OutpReferenceIdeal.Read.val_main_v16 (F := Ideal) (arg m c main_arg0) (arg m c main_arg1) (arg m c main_arg3) (arg m c main_arg4) (ix2 R l) := by
  refine Eq.trans ?_ (Cert.OutpReferenceIdeal.Op.v16_apply _ _ _ _ R l).symm
  unfold proj
  simp only [blk0 m c t r _ R hR, blk1 m c t r _ R hR, blk3]
  exact congrArg₂ (mix _ _ _) (funext fun k => blk4 m c t k l _) (funext fun k => blk5 m c t k l _)

/-- A point's first result is the reference's. -/
theorem pay1_eq (c : Dev nD) (t : Fin cfg0.N) (r : Fin 512) (l : Fin 2048) (R : Fin 16384) (hR : R.val = 512 * t.val + r.val) :
    k0_pay1 (iblk m c 2 t) (k0_pay3 (iblk m c 1 t) (iblk m c 3 t) (iblk m c 0 t) (iblk m c 4 t) (iblk m c 5 t)) (iblk m c 7 t) (iblk m c 6 t) (ix2 r l)
      = Cert.OutpReferenceIdeal.Read.val_main_v31 (F := Ideal) (arg m c main_arg0) (arg m c main_arg1) (arg m c main_arg2) (arg m c main_arg3) (arg m c main_arg4)
          (arg m c main_arg5) (arg m c main_arg6) (ix2 R l) := by
  refine Eq.trans ?_ (Cert.OutpReferenceIdeal.Op.v31_apply _ _ _ _ _ _ _ R l).symm
  refine (pay1_apply _ _ _ _ r l).trans ?_
  rw [pay3_apply]
  simp only [proj_eq m c t r _ R hR, blk2 m c t r l R hR, blk6, blk7]

/-- The call's first array after the run: the reference's first result. -/
theorem final11 (c : Dev nD) :
    (dats m 0 c).arrAt 11 cfg0.N
      = Cert.OutpReferenceIdeal.Read.val_main_v31 (F := Ideal) (arg m c main_arg0) (arg m c main_arg1) (arg m c main_arg2) (arg m c main_arg3) (arg m c main_arg4)
          (arg m c main_arg5) (arg m c main_arg6) := by
  refine (dats m 0 c).arrAt_eq_of_covers 11 _ (by decide +kernel) fun t hfl y => ?_
  blk_simp
  rw [after0_11, out11_eq]
  idx_vars y
  generalize hz : ((View.whole main_v0_0).slice (win0_11.rect t)).emb (ix2 y0 y1) = z
  have h0 : (z 0).val = 512 * t.val + y0.val := by rw [← hz]; blk_simp [(e_tile t).2.2.2.1]; ring
  have h1 : z 1 = y1 := by refine Fin.ext ?_; rw [← hz]; blk_simp [(e_tile t).2.2.2.1]
  clear hz
  idx_vars z
  obtain rfl : z1 = y1 := h1
  exact pay1_eq m c t y0 z1 z0 h0

/-- The call's second array after the run: the reference's second result. -/
theorem final12 (c : Dev nD) :
    (dats m 0 c).arrAt 12 cfg0.N
      = Cert.OutpReferenceIdeal.Read.val_main_v50 (F := Ideal) (arg m c main_arg0) (arg m c main_arg1) (arg m c main_arg2) (arg m c main_arg3) (arg m c main_arg4)
          (arg m c main_arg5) (arg m c main_arg6) (arg m c main_arg7) (arg m c main_arg8) (arg m c main_arg9) := by
  refine (dats m 0 c).arrAt_eq_of_covers 12 _ (by decide +kernel) fun t hfl y => ?_
  blk_simp
  rw [after0_12, out12_eq]
  idx_vars y
  generalize hz : ((View.whole main_v0_1).slice (win0_12.rect t)).emb (ix2 y0 y1) = z
  have h0 : (z 0).val = 512 * t.val + y0.val := by rw [← hz]; blk_simp [(e_tile t).2.2.2.2]; ring
  have h1 : z 1 = y1 := by refine Fin.ext ?_; rw [← hz]; blk_simp [(e_tile t).2.2.2.2]
  clear hz
  idx_vars z
  obtain rfl : z1 = y1 := h1
  refine (pay2_apply _ _ _ _ _ _ _ y0 z1).trans (Eq.trans ?_ (Cert.OutpReferenceIdeal.Op.v50_apply _ _ _ _ _ _ _ _ _ _ z0 z1).symm)
  simp only [pay1_eq m c t y0 _ z0 h0, blk8, blk9, blk10]

end Cert.OutpIdeal.Op

end
-- ==== Proof.InpPay.lean ====
/- The input projection's stored values and the reference's, read at one row and column. -/
module

public import proofs.«01_k».proof.Proof.OutPay
public import proofs.«01_k».proof.Proof.Gen.InpIdeal.Skeleton
public import proofs.«01_k».proof.Proof.Gen.InpReferenceIdeal.Read
public import Idealize.ShloMosaic.Lib.Pointwise

@[expose] public section

set_option maxRecDepth 16384

noncomputable section

namespace Cert.InpIdeal.Op

open Idealize.ShloMosaic Cert.InpIdeal Cert.InpIdeal.Gen
open Cert.OutpIdeal.Op (rms)

/-- One entry of a row, normed, with its gain, scale and shift. -/
def hval (b g sc sh : Fin 2048 → EReal) (k : Fin 2048) : EReal :=
  b k * rms 0x45000000#32 b * (g k * (Ideal.ofBits .f32 0x3F800000#32 + sc k)) + sh k

/-- The normed row against one row of a weight. -/
def hdot (b g sc sh w : Fin 2048 → EReal) : EReal := ∑ k, hval b g sc sh k * w k

/-- The gate's nonlinearity, in the kernel's order of products. -/
def gelu (u : EReal) : EReal :=
  Ideal.ofBits .f32 0x3F000000#32 * u
    * (Ideal.ofBits .f32 0x3F800000#32 + Ideal.tanh (Ideal.ofBits .f32 0x3F4C422A#32 * (u + Ideal.ofBits .f32 0x3D372713#32 * (u * u * u))))

variable (x : Vec Ideal S512x2048 .f32) (g sc sh : Vec Ideal S1x2048 .f32) (v : FVec Ideal S512x2048 .bf16) (wu : Vec Ideal S2048x2048 .bf16)
  (w : Vec Ideal S1024x2048 .bf16) (wf : Vec Ideal S128x2048 .bf16) (y : FVec Ideal S512x1024 .f32)

/-- A tile's normed and modulated rows. -/
theorem pay5_apply (r : Fin 512) (k : Fin 2048) :
    k0_pay5 x g sc sh (ix2 r k) = hval (fun k => x (ix2 r k)) (fun k => g (ix2 0 k)) (fun k => sc (ix2 0 k)) (fun k => sh (ix2 0 k)) k := by
  unfold hval rms
  pointwise [k0_pay5]

/-- The gate's half of the first product. -/
theorem pay7_apply (r : Fin 512) (l : Fin 1024) (p : 1024 + l.val < 2048) :
    k0_pay7 x g sc sh wu (ix2 r l) = ∑ k : Fin 2048, k0_pay5 x g sc sh (ix2 r k) * wu (ix2 ⟨1024 + l.val, p⟩ k) := by
  pointwise [k0_pay7, k0_pay6]

/-- The gate's stored value. -/
theorem pay10_apply (r : Fin 512) (l : Fin 1024) :
    k0_pay10 (k0_pay8 x g sc sh wu) (k0_pay9 x g sc sh wu) (ix2 r l) = gelu (k0_pay7 x g sc sh wu (ix2 r l)) := by
  unfold gelu
  pointwise [k0_pay10, k0_pay8, k0_pay9]

/-- The forget logits. -/
theorem pay3_apply (r : Fin 512) (l : Fin 128) : k0_pay3 v wf (ix2 r l) = ∑ k : Fin 2048, v (ix2 r k) * wf (ix2 l k) := by
  pointwise [k0_pay3]

/-- The queries' product, scaled. -/
theorem pay26_apply (r : Fin 512) (l : Fin 1024) :
    k0_pay26 v w (ix2 r l) = (∑ k : Fin 2048, v (ix2 r k) * w (ix2 l k)) * Ideal.ofBits .f32 0x3E0293EE#32 := by
  pointwise [k0_pay26]

/-- The keys' product. -/
theorem pay27_apply (r : Fin 512) (l : Fin 1024) : k0_pay27 v w (ix2 r l) = ∑ k : Fin 2048, v (ix2 r k) * w (ix2 l k) := by
  pointwise [k0_pay27]

/-- The values' product. -/
theorem pay28_apply (r : Fin 512) (l : Fin 1024) : k0_pay28 v w (ix2 r l) = ∑ k : Fin 2048, v (ix2 r k) * w (ix2 l k) := by
  pointwise [k0_pay28]

/-! ## The stores by heads -/

/-- The first head's queries. -/
theorem q0_apply (z : Fin 1) (d : Fin 128) (r : Fin 512) (l : Fin 1024) (e : l.val = 0 + d.val) : k0_pay29 v w (ix3 z d r) = k0_pay26 v w (ix2 r l) := by
  obtain rfl : z = 0 := Subsingleton.elim _ _
  obtain ⟨l, p⟩ := l
  obtain rfl : l = 0 + d.val := e
  pointwise [k0_pay29]

/-- The second head's queries. -/
theorem q1_apply (z : Fin 1) (d : Fin 128) (r : Fin 512) (l : Fin 1024) (e : l.val = 128 + d.val) : k0_pay32 v w (ix3 z d r) = k0_pay26 v w (ix2 r l) := by
  obtain rfl : z = 0 := Subsingleton.elim _ _
  obtain ⟨l, p⟩ := l
  obtain rfl : l = 128 + d.val := e
  pointwise [k0_pay32]

/-- The third head's queries. -/
theorem q2_apply (z : Fin 1) (d : Fin 128) (r : Fin 512) (l : Fin 1024) (e : l.val = 256 + d.val) : k0_pay35 y (ix3 z d r) = y (ix2 r l) := by
  obtain rfl : z = 0 := Subsingleton.elim _ _
  obtain ⟨l, p⟩ := l
  obtain rfl : l = 256 + d.val := e
  pointwise [k0_pay35]

/-- The fourth head's queries. -/
theorem q3_apply (z : Fin 1) (d : Fin 128) (r : Fin 512) (l : Fin 1024) (e : l.val = 384 + d.val) : k0_pay38 y (ix3 z d r) = y (ix2 r l) := by
  obtain rfl : z = 0 := Subsingleton.elim _ _
  obtain ⟨l, p⟩ := l
  obtain rfl : l = 384 + d.val := e
  pointwise [k0_pay38]

/-- The fifth head's queries. -/
theorem q4_apply (z : Fin 1) (d : Fin 128) (r : Fin 512) (l : Fin 1024) (e : l.val = 512 + d.val) : k0_pay42 y (ix3 z d r) = y (ix2 r l) := by
  obtain rfl : z = 0 := Subsingleton.elim _ _
  obtain ⟨l, p⟩ := l
  obtain rfl : l = 512 + d.val := e
  pointwise [k0_pay42]

/-- The sixth head's queries. -/
theorem q5_apply (z : Fin 1) (d : Fin 128) (r : Fin 512) (l : Fin 1024) (e : l.val = 640 + d.val) : k0_pay45 y (ix3 z d r) = y (ix2 r l) := by
  obtain rfl : z = 0 := Subsingleton.elim _ _
  obtain ⟨l, p⟩ := l
  obtain rfl : l = 640 + d.val := e
  pointwise [k0_pay45]

/-- The seventh head's queries. -/
theorem q6_apply (z : Fin 1) (d : Fin 128) (r : Fin 512) (l : Fin 1024) (e : l.val = 768 + d.val) : k0_pay49 y (ix3 z d r) = y (ix2 r l) := by
  obtain rfl : z = 0 := Subsingleton.elim _ _
  obtain ⟨l, p⟩ := l
  obtain rfl : l = 768 + d.val := e
  pointwise [k0_pay49]

/-- The eighth head's queries. -/
theorem q7_apply (z : Fin 1) (d : Fin 128) (r : Fin 512) (l : Fin 1024) (e : l.val = 896 + d.val) : k0_pay52 y (ix3 z d r) = y (ix2 r l) := by
  obtain rfl : z = 0 := Subsingleton.elim _ _
  obtain ⟨l, p⟩ := l
  obtain rfl : l = 896 + d.val := e
  pointwise [k0_pay52]

/-- The first head's keys. -/
theorem k0_apply (z : Fin 1) (d : Fin 128) (r : Fin 512) (l : Fin 1024) (e : l.val = 0 + d.val) : k0_pay30 v w (ix3 z r d) = k0_pay27 v w (ix2 r l) := by
  obtain rfl : z = 0 := Subsingleton.elim _ _
  obtain ⟨l, p⟩ := l
  obtain rfl : l = 0 + d.val := e
  pointwise [k0_pay30]

/-- The second head's keys. -/
theorem k1_apply (z : Fin 1) (d : Fin 128) (r : Fin 512) (l : Fin 1024) (e : l.val = 128 + d.val) : k0_pay33 y (ix3 z r d) = y (ix2 r l) := by
  obtain rfl : z = 0 := Subsingleton.elim _ _
  obtain ⟨l, p⟩ := l
  obtain rfl : l = 128 + d.val := e
  pointwise [k0_pay33]

/-- The third head's keys. -/
theorem k2_apply (z : Fin 1) (d : Fin 128) (r : Fin 512) (l : Fin 1024) (e : l.val = 256 + d.val) : k0_pay36 y (ix3 z r d) = y (ix2 r l) := by
  obtain rfl : z = 0 := Subsingleton.elim _ _
  obtain ⟨l, p⟩ := l
  obtain rfl : l = 256 + d.val := e
  pointwise [k0_pay36]

/-- The fourth head's keys. -/
theorem k3_apply (z : Fin 1) (d : Fin 128) (r : Fin 512) (l : Fin 1024) (e : l.val = 384 + d.val) : k0_pay40 (k0_pay39 y) (ix3 z r d) = y (ix2 r l) := by
  obtain rfl : z = 0 := Subsingleton.elim _ _
  obtain ⟨l, p⟩ := l
  obtain rfl : l = 384 + d.val := e
  pointwise [k0_pay40, k0_pay39]

/-- The fifth head's keys. -/
theorem k4_apply (z : Fin 1) (d : Fin 128) (r : Fin 512) (l : Fin 1024) (e : l.val = 512 + d.val) : k0_pay43 y (ix3 z r d) = y (ix2 r l) := by
  obtain rfl : z = 0 := Subsingleton.elim _ _
  obtain ⟨l, p⟩ := l
  obtain rfl : l = 512 + d.val := e
  pointwise [k0_pay43]

/-- The sixth head's keys. -/
theorem k5_apply (z : Fin 1) (d : Fin 128) (r : Fin 512) (l : Fin 1024) (e : l.val = 640 + d.val) : k0_pay47 (k0_pay46 y) (ix3 z r d) = y (ix2 r l) := by
  obtain rfl : z = 0 := Subsingleton.elim _ _
  obtain ⟨l, p⟩ := l
  obtain rfl : l = 640 + d.val := e
  pointwise [k0_pay47, k0_pay46]

/-- The seventh head's keys. -/
theorem k6_apply (z : Fin 1) (d : Fin 128) (r : Fin 512) (l : Fin 1024) (e : l.val = 768 + d.val) : k0_pay50 y (ix3 z r d) = y (ix2 r l) := by
  obtain rfl : z = 0 := Subsingleton.elim _ _
  obtain ⟨l, p⟩ := l
  obtain rfl : l = 768 + d.val := e
  pointwise [k0_pay50]

/-- The eighth head's keys. -/
theorem k7_apply (z : Fin 1) (d : Fin 128) (r : Fin 512) (l : Fin 1024) (e : l.val = 896 + d.val) : k0_pay1 (k0_pay53 y) (ix3 z r d) = y (ix2 r l) := by
  obtain rfl : z = 0 := Subsingleton.elim _ _
  obtain ⟨l, p⟩ := l
  obtain rfl : l = 896 + d.val := e
  pointwise [k0_pay1, k0_pay53]

/-- The first head's values. -/
theorem v0_apply (z : Fin 1) (d : Fin 128) (r : Fin 512) (l : Fin 1024) (e : l.val = 0 + d.val) : k0_pay31 v w (ix3 z d r) = k0_pay28 v w (ix2 r l) := by
  obtain rfl : z = 0 := Subsingleton.elim _ _
  obtain ⟨l, p⟩ := l
  obtain rfl : l = 0 + d.val := e
  pointwise [k0_pay31]

/-- The second head's values. -/
theorem v1_apply (z : Fin 1) (d : Fin 128) (r : Fin 512) (l : Fin 1024) (e : l.val = 128 + d.val) : k0_pay34 y (ix3 z d r) = y (ix2 r l) := by
  obtain rfl : z = 0 := Subsingleton.elim _ _
  obtain ⟨l, p⟩ := l
  obtain rfl : l = 128 + d.val := e
  pointwise [k0_pay34]

/-- The third head's values. -/
theorem v2_apply (z : Fin 1) (d : Fin 128) (r : Fin 512) (l : Fin 1024) (e : l.val = 256 + d.val) : k0_pay37 y (ix3 z d r) = y (ix2 r l) := by
  obtain rfl : z = 0 := Subsingleton.elim _ _
  obtain ⟨l, p⟩ := l
  obtain rfl : l = 256 + d.val := e
  pointwise [k0_pay37]

/-- The fourth head's values. -/
theorem v3_apply (z : Fin 1) (d : Fin 128) (r : Fin 512) (l : Fin 1024) (e : l.val = 384 + d.val) : k0_pay41 y (ix3 z d r) = y (ix2 r l) := by
  obtain rfl : z = 0 := Subsingleton.elim _ _
  obtain ⟨l, p⟩ := l
  obtain rfl : l = 384 + d.val := e
  pointwise [k0_pay41]

/-- The fifth head's values. -/
theorem v4_apply (z : Fin 1) (d : Fin 128) (r : Fin 512) (l : Fin 1024) (e : l.val = 512 + d.val) : k0_pay44 y (ix3 z d r) = y (ix2 r l) := by
  obtain rfl : z = 0 := Subsingleton.elim _ _
  obtain ⟨l, p⟩ := l
  obtain rfl : l = 512 + d.val := e
  pointwise [k0_pay44]

/-- The sixth head's values. -/
theorem v5_apply (z : Fin 1) (d : Fin 128) (r : Fin 512) (l : Fin 1024) (e : l.val = 640 + d.val) : k0_pay48 y (ix3 z d r) = y (ix2 r l) := by
  obtain rfl : z = 0 := Subsingleton.elim _ _
  obtain ⟨l, p⟩ := l
  obtain rfl : l = 640 + d.val := e
  pointwise [k0_pay48]

/-- The seventh head's values. -/
theorem v6_apply (z : Fin 1) (d : Fin 128) (r : Fin 512) (l : Fin 1024) (e : l.val = 768 + d.val) : k0_pay51 y (ix3 z d r) = y (ix2 r l) := by
  obtain rfl : z = 0 := Subsingleton.elim _ _
  obtain ⟨l, p⟩ := l
  obtain rfl : l = 768 + d.val := e
  pointwise [k0_pay51]

/-- The eighth head's values. -/
theorem v7_apply (z : Fin 1) (d : Fin 128) (r : Fin 512) (l : Fin 1024) (e : l.val = 896 + d.val) : k0_pay2 y (ix3 z d r) = y (ix2 r l) := by
  obtain rfl : z = 0 := Subsingleton.elim _ _
  obtain ⟨l, p⟩ := l
  obtain rfl : l = 896 + d.val := e
  pointwise [k0_pay2]

end Cert.InpIdeal.Op

namespace Cert.InpReferenceIdeal.Op

open Idealize.ShloMosaic Cert.InpReferenceIdeal Cert.InpReferenceIdeal.Gen Cert.InpReferenceIdeal.Read
open Cert.InpIdeal.Op (hval hdot gelu)
open Cert.OutpIdeal.Op (rms)

variable (x0 : (⟨S16384x2048, .f32⟩ : BufTy).Contents (Elt Ideal)) (x1 x2 x3 : (⟨S1x2048, .f32⟩ : BufTy).Contents (Elt Ideal))
  (x4 : (⟨S5120x2048, .bf16⟩ : BufTy).Contents (Elt Ideal)) (x5 : (⟨S128x2048, .bf16⟩ : BufTy).Contents (Elt Ideal))

/-- The reference's normed and modulated rows. -/
theorem v17_apply (R : Fin 16384) (k : Fin 2048) :
    val_main_v17 (F := Ideal) x0 x1 x2 x3 (ix2 R k)
      = hval (fun k => x0 (ix2 R k)) (fun k => x1 (ix2 0 k)) (fun k => x3 (ix2 0 k)) (fun k => x2 (ix2 0 k)) k := by
  have e : val_main_v17 (F := Ideal) x0 x1 x2 x3 (ix2 R k) = x0 (ix2 R k)
      * Ideal.rsqrt (Ideal.div (Ideal.ofBits .f32 0x00000000#32 + ∑ k : Fin 2048, x0 (ix2 R k) * x0 (ix2 R k)) (Ideal.ofBits .f32 0x45000000#32) + Ideal.ofBits .f32 0x358637BD#32)
      * x1 (ix2 0 k) * (Ideal.ofBits .f32 0x3F800000#32 + x3 (ix2 0 k)) + x2 (ix2 0 k) := by
    pointwise [val_main_v17, val_main_v16, val_main_v15, val_main_v14, val_main_v13, val_main_v12, val_main_v11, val_main_v10, val_main_v9, val_main_v8, val_main_v7,
      val_main_v6, val_main_v5, val_main_v4, val_main_v3, val_main_v2, val_main_v1, val_main_v0, val_main_cst, val_main_cst_0, val_main_cst_1, val_main_cst_2]
  rw [e, Ideal.ofBits_zero_f32, zero_add, mul_assoc _ (x1 _)]
  rfl

/-- The reference's product, at any column. -/
theorem v20_apply (R : Fin 16384) (l : Fin 5120) :
    val_main_v20 (F := Ideal) x0 x1 x2 x3 x4 (ix2 R l)
      = hdot (fun k => x0 (ix2 R k)) (fun k => x1 (ix2 0 k)) (fun k => x3 (ix2 0 k)) (fun k => x2 (ix2 0 k)) (fun k => x4 (ix2 l k)) := by
  have e : val_main_v20 (F := Ideal) x0 x1 x2 x3 x4 (ix2 R l) = ∑ k : Fin 2048, val_main_v17 (F := Ideal) x0 x1 x2 x3 (ix2 R k) * x4 (ix2 l k) := by
    pointwise [val_main_v20, val_main_v19, val_main_v18]
  rw [e]
  exact Finset.sum_congr rfl fun k _ => congrArg (· * _) (v17_apply x0 x1 x2 x3 R k)

/-- The reference's forget logits. -/
theorem v32_apply (R : Fin 16384) (l : Fin 128) :
    val_main_v32 (F := Ideal) x0 x1 x2 x3 x5 (ix2 R l)
      = hdot (fun k => x0 (ix2 R k)) (fun k => x1 (ix2 0 k)) (fun k => x3 (ix2 0 k)) (fun k => x2 (ix2 0 k)) (fun k => x5 (ix2 l k)) := by
  have e : val_main_v32 (F := Ideal) x0 x1 x2 x3 x5 (ix2 R l) = ∑ k : Fin 2048, val_main_v17 (F := Ideal) x0 x1 x2 x3 (ix2 R k) * x5 (ix2 l k) := by
    pointwise [val_main_v32, val_main_v31, val_main_v30]
  rw [e]
  exact Finset.sum_congr rfl fun k _ => congrArg (· * _) (v17_apply x0 x1 x2 x3 R k)

/-- The reference's gate. -/
theorem v46_apply (R : Fin 16384) (l : Fin 1024) (p : 1024 + l.val < 5120) :
    val_main_v46 (F := Ideal) x0 x1 x2 x3 x4 (ix2 R l) = gelu (val_main_v20 (F := Ideal) x0 x1 x2 x3 x4 (ix2 R ⟨1024 + l.val, p⟩)) := by
  have e : val_main_v46 (F := Ideal) x0 x1 x2 x3 x4 (ix2 R l) = val_main_v20 (F := Ideal) x0 x1 x2 x3 x4 (ix2 R ⟨1024 + l.val, p⟩)
      * (Ideal.ofBits .f32 0x3F000000#32 * (Ideal.ofBits .f32 0x3F800000#32 + Ideal.tanh (Ideal.ofBits .f32 0x3F4C422A#32
        * (val_main_v20 (F := Ideal) x0 x1 x2 x3 x4 (ix2 R ⟨1024 + l.val, p⟩) + Ideal.ofBits .f32 0x3D372713#32
          * (val_main_v20 (F := Ideal) x0 x1 x2 x3 x4 (ix2 R ⟨1024 + l.val, p⟩) * val_main_v20 (F := Ideal) x0 x1 x2 x3 x4 (ix2 R ⟨1024 + l.val, p⟩)
            * val_main_v20 (F := Ideal) x0 x1 x2 x3 x4 (ix2 R ⟨1024 + l.val, p⟩)))))) := by
    pointwise [val_main_v46, val_main_v45, val_main_v44, val_main_v43, val_main_v42, val_main_v41, val_main_v40, val_main_v39, val_main_v38, val_main_v37,
      val_main_v36, val_main_v35, val_main_v34, val_main_v33, val_main_v21, val_main_cst_4, val_main_cst_5, val_main_cst_6, val_main_cst_7]
  rw [e, mul_left_comm, ← mul_assoc]
  rfl

/-- The reference's queries, by heads. -/
theorem v48_apply (h : Fin 8) (d : Fin 128) (R : Fin 16384) (p : 2048 + (128 * h.val + d.val) < 5120) :
    val_main_v48 (F := Ideal) x0 x1 x2 x3 x4 (ix3 h d R) = val_main_v20 (F := Ideal) x0 x1 x2 x3 x4 (ix2 R ⟨2048 + (128 * h.val + d.val), p⟩) * Ideal.ofBits .f32 0x3E0293EE#32 := by
  have q : 128 * h.val + d.val < 1024 := by omega
  have e : val_main_v48 (F := Ideal) x0 x1 x2 x3 x4 (ix3 h d R) = val_main_v26 (F := Ideal) x0 x1 x2 x3 x4 (ix2 R ⟨128 * h.val + d.val, q⟩) := by
    refine (val_main_v47_apply (F := Ideal) _ _ _ _ _ _).trans ((val_main_v27_apply (F := Ideal) _ _ _ _ _ _).trans (congrArg _ (funext fun a => Fin.ext ?_)))
    have hR := R.isLt
    have hh := h.isLt
    have hd := d.isLt
    fin_cases a
    · show ((R.val * 8 + h.val) * 128 + d.val) / 1024 = R.val
      omega
    · show ((R.val * 8 + h.val) * 128 + d.val) % 1024 = 128 * h.val + d.val
      omega
  rw [e]
  pointwise [val_main_v26, val_main_v25, val_main_v22, val_main_cst_3]

/-- The reference's keys, by heads. -/
theorem v50_apply (h : Fin 8) (d : Fin 128) (R : Fin 16384) (p : 3072 + (128 * h.val + d.val) < 5120) :
    val_main_v50 (F := Ideal) x0 x1 x2 x3 x4 (ix3 h R d) = val_main_v20 (F := Ideal) x0 x1 x2 x3 x4 (ix2 R ⟨3072 + (128 * h.val + d.val), p⟩) := by
  have q : 128 * h.val + d.val < 1024 := by omega
  have e : val_main_v50 (F := Ideal) x0 x1 x2 x3 x4 (ix3 h R d) = val_main_v23 (F := Ideal) x0 x1 x2 x3 x4 (ix2 R ⟨128 * h.val + d.val, q⟩) := by
    refine (val_main_v49_apply (F := Ideal) _ _ _ _ _ _).trans ((val_main_v28_apply (F := Ideal) _ _ _ _ _ _).trans (congrArg _ (funext fun a => Fin.ext ?_)))
    have hR := R.isLt
    have hh := h.isLt
    have hd := d.isLt
    fin_cases a
    · show ((R.val * 8 + h.val) * 128 + d.val) / 1024 = R.val
      omega
    · show ((R.val * 8 + h.val) * 128 + d.val) % 1024 = 128 * h.val + d.val
      omega
  rw [e]
  pointwise [val_main_v23]

/-- The reference's values, by heads. -/
theorem v52_apply (h : Fin 8) (d : Fin 128) (R : Fin 16384) (p : 4096 + (128 * h.val + d.val) < 5120) :
    val_main_v52 (F := Ideal) x0 x1 x2 x3 x4 (ix3 h d R) = val_main_v20 (F := Ideal) x0 x1 x2 x3 x4 (ix2 R ⟨4096 + (128 * h.val + d.val), p⟩) := by
  have q : 128 * h.val + d.val < 1024 := by omega
  have e : val_main_v52 (F := Ideal) x0 x1 x2 x3 x4 (ix3 h d R) = val_main_v24 (F := Ideal) x0 x1 x2 x3 x4 (ix2 R ⟨128 * h.val + d.val, q⟩) := by
    refine (val_main_v51_apply (F := Ideal) _ _ _ _ _ _).trans ((val_main_v29_apply (F := Ideal) _ _ _ _ _ _).trans (congrArg _ (funext fun a => Fin.ext ?_)))
    have hR := R.isLt
    have hh := h.isLt
    have hd := d.isLt
    fin_cases a
    · show ((R.val * 8 + h.val) * 128 + d.val) / 1024 = R.val
      omega
    · show ((R.val * 8 + h.val) * 128 + d.val) % 1024 = 128 * h.val + d.val
      omega
  rw [e]
  pointwise [val_main_v24]

end Cert.InpReferenceIdeal.Op

end
-- ==== Proof.InpFinal.lean ====
/- Five of the arrays the input projection leaves over the reals: what the reference computes of the same arguments. -/
module

public import proofs.«01_k».proof.Proof.InpPay
public import proofs.«01_k».proof.Proof.Gen.InpIdeal.Value
public import Idealize.ShloMosaic.Lib.Pipeline.ValueKit.Geometry
public import Idealize.ShloMosaic.Lib.Pipeline.ValueKit.Tiles
public import Idealize.ShloMosaic.Lib.Pipeline.ValueKit.Acc

@[expose] public section

set_option maxRecDepth 16384

noncomputable section

namespace Cert.InpIdeal.Op

open Idealize.ShloMosaic Idealize.ShloMosaic.TcCoe Cert.InpIdeal Cert.InpIdeal.Gen

variable (m : (ℓ : Loc nD τ sig) → Buf (Elt Ideal) ℓ)

/-! ## The blocks a grid point reads -/

/-- The row tiles of the input and of the two results kept by rows. -/
theorem e_tile : ∀ t : Fin grid0.N, win0_0.index t = ![t.val, 0] ∧ win0_17.index t = ![t.val, 0] ∧ win0_21.index t = ![t.val, 0] := by decide +kernel

/-- The tiles of the three results kept by heads. -/
theorem e_heads : ∀ t : Fin grid0.N, win0_18.index t = ![0, 0, t.val] ∧ win0_19.index t = ![0, t.val, 0] ∧ win0_20.index t = ![0, 0, t.val] := by decide +kernel

/-- The rows of the gain, the shift and the scale, whole. -/
theorem e_row : ∀ t : Fin grid0.N, win0_1.index t = ![0, 0] ∧ win0_2.index t = ![0, 0] ∧ win0_3.index t = ![0, 0] := by decide +kernel

/-- The four parts of the weight, and the forget gate's weight whole. -/
theorem e_weight : ∀ t : Fin grid0.N, win0_4.index t = ![0, 0] ∧ win0_5.index t = ![2, 0] ∧ win0_6.index t = ![3, 0] ∧ win0_7.index t = ![4, 0]
    ∧ win0_8.index t = ![0, 0] := by decide +kernel

/-- A buffer of the initial memory, at a device. -/
abbrev arg (c : Dev nD) (b : Ref sig .tc) := m ((c.tc : Thread nD τ).loc b)

/-- The input's block holds the tile's rows of the argument. -/
theorem blk0 (c : Dev nD) (t : Fin cfg0.N) (r : Fin 512) (k : Fin 2048) (R : Fin 16384) (hR : R.val = 512 * t.val + r.val) :
    iblk m c 0 t (ix2 r k) = arg m c main_arg0 (ix2 R k) := by
  blk_simp [iblk]
  refine congrArg (arg m c main_arg0) ?_
  blk_ext [(e_tile t).1]

/-- The gain, whole. -/
theorem blk1 (c : Dev nD) (t : Fin cfg0.N) (k : Fin 2048) : iblk m c 1 t (ix2 0 k) = arg m c main_arg1 (ix2 0 k) := by
  blk_simp [iblk]
  refine congrArg (arg m c main_arg1) ?_
  blk_ext [(e_row t).1]

/-- The shift, whole. -/
theorem blk2 (c : Dev nD) (t : Fin cfg0.N) (k : Fin 2048) : iblk m c 2 t (ix2 0 k) = arg m c main_arg2 (ix2 0 k) := by
  blk_simp [iblk]
  refine congrArg (arg m c main_arg2) ?_
  blk_ext [(e_row t).2.1]

/-- The scale, whole. -/
theorem blk3 (c : Dev nD) (t : Fin cfg0.N) (k : Fin 2048) : iblk m c 3 t (ix2 0 k) = arg m c main_arg3 (ix2 0 k) := by
  blk_simp [iblk]
  refine congrArg (arg m c main_arg3) ?_
  blk_ext [(e_row t).2.2]

/-- The weight's rows for the two recurrent inputs. -/
theorem blk4 (c : Dev nD) (t : Fin cfg0.N) (l k : Fin 2048) (p : l.val < 5120) : X0_4 m c t (ix2 l k) = arg m c main_arg4 (ix2 ⟨l.val, p⟩ k) := by
  unfold X0_4 Pipeline.Window.fill
  rw [dif_pos (moved0_4 t _)]
  blk_simp [iblk]
  refine congrArg (arg m c main_arg4) ?_
  blk_ext [(e_weight t).1]

/-- The weight's rows for the queries. -/
theorem blk5 (c : Dev nD) (t : Fin cfg0.N) (l : Fin 1024) (k : Fin 2048) (p : 2048 + l.val < 5120) :
    iblk m c 5 t (ix2 l k) = arg m c main_arg4 (ix2 ⟨2048 + l.val, p⟩ k) := by
  blk_simp [iblk]
  refine congrArg (arg m c main_arg4) ?_
  blk_ext [(e_weight t).2.1]

/-- The weight's rows for the keys. -/
theorem blk6 (c : Dev nD) (t : Fin cfg0.N) (l : Fin 1024) (k : Fin 2048) (p : 3072 + l.val < 5120) :
    iblk m c 6 t (ix2 l k) = arg m c main_arg4 (ix2 ⟨3072 + l.val, p⟩ k) := by
  blk_simp [iblk]
  refine congrArg (arg m c main_arg4) ?_
  blk_ext [(e_weight t).2.2.1]

/-- The weight's rows for the values. -/
theorem blk7 (c : Dev nD) (t : Fin cfg0.N) (l : Fin 1024) (k : Fin 2048) (p : 4096 + l.val < 5120) :
    iblk m c 7 t (ix2 l k) = arg m c main_arg4 (ix2 ⟨4096 + l.val, p⟩ k) := by
  blk_simp [iblk]
  refine congrArg (arg m c main_arg4) ?_
  blk_ext [(e_weight t).2.2.2.1]

/-- The forget gate's weight, whole. -/
theorem blk8 (c : Dev nD) (t : Fin cfg0.N) (l : Fin 128) (k : Fin 2048) : iblk m c 8 t (ix2 l k) = arg m c main_arg5 (ix2 l k) := by
  blk_simp [iblk]
  refine congrArg (arg m c main_arg5) ?_
  blk_ext [(e_weight t).2.2.2.2]

/-! ## What a grid point leaves -/

/-- A point's normed and modulated rows. -/
abbrev rows (c : Dev nD) (t : Fin cfg0.N) := k0_pay5 (F := Ideal) (iblk m c 0 t) (iblk m c 1 t) (iblk m c 3 t) (iblk m c 2 t)

/-- The gate's block. -/
theorem left17 (c : Dev nD) (t : Fin cfg0.N) :
    (outsAt0 m c t.val t.isLt).2.2.1
      = k0_pay10 (k0_pay8 (iblk m c 0 t) (iblk m c 1 t) (iblk m c 3 t) (iblk m c 2 t) (X0_4 m c t))
          (k0_pay9 (iblk m c 0 t) (iblk m c 1 t) (iblk m c 3 t) (iblk m c 2 t) (X0_4 m c t)) := by
  by_cases h : t.val % 32 = 0
  · rw [outsAt0_A m c t h]; frame_out
  · rw [outsAt0_B m c t h]; frame_out

/-- The forget logits' block. -/
theorem left21 (c : Dev nD) (t : Fin cfg0.N) : (outsAt0 m c t.val t.isLt).2.2.2.2.2.2.1 = k0_pay3 (rows m c t) (iblk m c 8 t) := by
  by_cases h : t.val % 32 = 0
  · rw [outsAt0_A m c t h]; frame_out
  · rw [outsAt0_B m c t h]; frame_out

/-- The queries' block, head by head: each head's columns of the product. -/
theorem left18 (c : Dev nD) (t : Fin cfg0.N) (hd : Fin 8) (d : Fin 128) (r : Fin 512) (l : Fin 1024) (e : l.val = 128 * hd.val + d.val) :
    (outsAt0 m c t.val t.isLt).2.2.2.1 (ix3 hd d r) = k0_pay26 (rows m c t) (iblk m c 5 t) (ix2 r l) := by
  by_cases h : t.val % 32 = 0
  all_goals
    first | rw [outsAt0_A m c t h] | rw [outsAt0_B m c t h]
    frame_out
    canon_tiles x hx
    all_goals
      idx_vars x
      obtain rfl : r = x2 := Fin.ext hx2
    exacts [q7_apply _ x0 x1 r l (by omega),
      q6_apply _ x0 x1 r l (by omega),
      q5_apply _ x0 x1 r l (by omega),
      q4_apply _ x0 x1 r l (by omega),
      q3_apply _ x0 x1 r l (by omega),
      q2_apply _ x0 x1 r l (by omega),
      q1_apply _ _ x0 x1 r l (by omega),
      q0_apply _ _ x0 x1 r l (by omega)]

/-- The keys' block, head by head: each head's columns of the product. -/
theorem left19 (c : Dev nD) (t : Fin cfg0.N) (hd : Fin 8) (d : Fin 128) (r : Fin 512) (l : Fin 1024) (e : l.val = 128 * hd.val + d.val) :
    (outsAt0 m c t.val t.isLt).2.2.2.2.1 (ix3 hd r d) = k0_pay27 (rows m c t) (iblk m c 6 t) (ix2 r l) := by
  by_cases h : t.val % 32 = 0
  all_goals
    first | rw [outsAt0_A m c t h] | rw [outsAt0_B m c t h]
    frame_out
    canon_tiles x hx
    all_goals
      idx_vars x
      obtain rfl : r = x1 := Fin.ext hx1
    exacts [k7_apply _ x0 x2 r l (by omega),
      k6_apply _ x0 x2 r l (by omega),
      k5_apply _ x0 x2 r l (by omega),
      k4_apply _ x0 x2 r l (by omega),
      k3_apply _ x0 x2 r l (by omega),
      k2_apply _ x0 x2 r l (by omega),
      k1_apply _ x0 x2 r l (by omega),
      k0_apply _ _ x0 x2 r l (by omega)]

/-- The values' block, head by head: each head's columns of the product. -/
theorem left20 (c : Dev nD) (t : Fin cfg0.N) (hd : Fin 8) (d : Fin 128) (r : Fin 512) (l : Fin 1024) (e : l.val = 128 * hd.val + d.val) :
    (outsAt0 m c t.val t.isLt).2.2.2.2.2.1 (ix3 hd d r) = k0_pay28 (rows m c t) (iblk m c 7 t) (ix2 r l) := by
  by_cases h : t.val % 32 = 0
  all_goals
    first | rw [outsAt0_A m c t h] | rw [outsAt0_B m c t h]
    frame_out
    canon_tiles x hx
    all_goals
      idx_vars x
      obtain rfl : r = x2 := Fin.ext hx2
    exacts [v7_apply _ x0 x1 r l (by omega),
      v6_apply _ x0 x1 r l (by omega),
      v5_apply _ x0 x1 r l (by omega),
      v4_apply _ x0 x1 r l (by omega),
      v3_apply _ x0 x1 r l (by omega),
      v2_apply _ x0 x1 r l (by omega),
      v1_apply _ x0 x1 r l (by omega),
      v0_apply _ _ x0 x1 r l (by omega)]

/-! ## The reference's values at a point -/

/-- A point's normed rows are the reference's. -/
theorem rows_eq (c : Dev nD) (t : Fin cfg0.N) (r : Fin 512) (k : Fin 2048) (R : Fin 16384) (hR : R.val = 512 * t.val + r.val) :
    rows m c t (ix2 r k) = hval (fun k => arg m c main_arg0 (ix2 R k)) (fun k => arg m c main_arg1 (ix2 0 k)) (fun k => arg m c main_arg3 (ix2 0 k))
      (fun k => arg m c main_arg2 (ix2 0 k)) k := by
  refine (pay5_apply _ _ _ _ r k).trans ?_
  simp only [blk0 m c t r _ R hR, blk1, blk2, blk3]

/-- A point's product against one row of the weight is the reference's at that column. -/
theorem dot_eq (c : Dev nD) (t : Fin cfg0.N) (r : Fin 512) (w : Fin 2048 → EReal) (R : Fin 16384) (hR : R.val = 512 * t.val + r.val) (l : Fin 5120)
    (hw : ∀ k, w k = arg m c main_arg4 (ix2 l k)) :
    ∑ k : Fin 2048, rows m c t (ix2 r k) * w k
      = Cert.InpReferenceIdeal.Read.val_main_v20 (F := Ideal) (arg m c main_arg0) (arg m c main_arg1) (arg m c main_arg2) (arg m c main_arg3) (arg m c main_arg4) (ix2 R l) := by
  refine Eq.trans ?_ (Cert.InpReferenceIdeal.Op.v20_apply _ _ _ _ _ R l).symm
  unfold hdot
  exact Finset.sum_congr rfl fun k _ => congrArg₂ (· * ·) (rows_eq m c t r k R hR) (hw k)

/-! ## The arrays after the run -/

/-- The gate's array: the reference's. -/
theorem final17 (c : Dev nD) :
    (dats m 0 c).arrAt 17 cfg0.N = Cert.InpReferenceIdeal.Read.val_main_v46 (F := Ideal) (arg m c main_arg0) (arg m c main_arg1) (arg m c main_arg2) (arg m c main_arg3) (arg m c main_arg4) := by
  refine (dats m 0 c).arrAt_eq_of_covers 17 _ (by decide +kernel) fun t hfl y => ?_
  blk_simp
  rw [after0_17, left17]
  idx_vars y
  generalize hz : ((View.whole main_v0_2).slice (win0_17.rect t)).emb (ix2 y0 y1) = z
  have h0 : (z 0).val = 512 * t.val + y0.val := by rw [← hz]; blk_simp [(e_tile t).2.1]; ring
  have h1 : z 1 = y1 := by refine Fin.ext ?_; rw [← hz]; blk_simp [(e_tile t).2.1]
  clear hz
  idx_vars z
  obtain rfl : z1 = y1 := h1
  have p : 1024 + z1.val < 2048 := by have := z1.isLt; omega
  refine (pay10_apply _ _ _ _ _ y0 z1).trans (Eq.trans (congrArg gelu ?_) (Cert.InpReferenceIdeal.Op.v46_apply _ _ _ _ _ z0 z1 (by omega)).symm)
  refine (pay7_apply _ _ _ _ _ y0 z1 p).trans ?_
  exact dot_eq m c t y0 _ z0 h0 _ fun k => blk4 m c t _ k _

/-- The forget logits' array: the reference's. -/
theorem final21 (c : Dev nD) :
    (dats m 0 c).arrAt 21 cfg0.N = Cert.InpReferenceIdeal.Read.val_main_v32 (F := Ideal) (arg m c main_arg0) (arg m c main_arg1) (arg m c main_arg2) (arg m c main_arg3) (arg m c main_arg5) := by
  refine (dats m 0 c).arrAt_eq_of_covers 21 _ (by decide +kernel) fun t hfl y => ?_
  blk_simp
  rw [after0_21, left21]
  idx_vars y
  generalize hz : ((View.whole main_v0_6).slice (win0_21.rect t)).emb (ix2 y0 y1) = z
  have h0 : (z 0).val = 512 * t.val + y0.val := by rw [← hz]; blk_simp [(e_tile t).2.2]; ring
  have h1 : z 1 = y1 := by refine Fin.ext ?_; rw [← hz]; blk_simp [(e_tile t).2.2]
  clear hz
  idx_vars z
  obtain rfl : z1 = y1 := h1
  refine (pay3_apply _ _ y0 z1).trans (Eq.trans ?_ (Cert.InpReferenceIdeal.Op.v32_apply _ _ _ _ _ z0 z1).symm)
  unfold hdot
  exact Finset.sum_congr rfl fun k _ => congrArg₂ (· * ·) (rows_eq m c t y0 k z0 h0) (blk8 m c t z1 k)

/-- The queries' array: the reference's. -/
theorem final18 (c : Dev nD) :
    (dats m 0 c).arrAt 18 cfg0.N = Cert.InpReferenceIdeal.Read.val_main_v48 (F := Ideal) (arg m c main_arg0) (arg m c main_arg1) (arg m c main_arg2) (arg m c main_arg3) (arg m c main_arg4) := by
  refine (dats m 0 c).arrAt_eq_of_covers 18 _ (by decide +kernel) fun t hfl y => ?_
  blk_simp
  rw [after0_18]
  idx_vars y
  generalize hz : ((View.whole main_v0_3).slice (win0_18.rect t)).emb (ix3 y0 y1 y2) = z
  have h0 : z 0 = y0 := by refine Fin.ext ?_; rw [← hz]; blk_simp [(e_heads t).1]
  have h2 : (z 2).val = 512 * t.val + y2.val := by rw [← hz]; blk_simp [(e_heads t).1]; ring
  have h1 : z 1 = y1 := by refine Fin.ext ?_; rw [← hz]; blk_simp [(e_heads t).1]
  clear hz
  idx_vars z
  obtain rfl : z0 = y0 := h0
  obtain rfl : z1 = y1 := h1
  have p : 128 * z0.val + z1.val < 1024 := by have := z0.isLt; have := z1.isLt; omega
  refine (left18 m c t z0 z1 y2 ⟨128 * z0.val + z1.val, p⟩ rfl).trans ((pay26_apply _ _ _ _).trans
    (Eq.trans (congrArg (· * _) ?_) (Cert.InpReferenceIdeal.Op.v48_apply _ _ _ _ _ z0 z1 z2 (by omega)).symm))
  exact dot_eq m c t y2 _ z2 h2 _ fun k => blk5 m c t _ k _

/-- The keys' array: the reference's. -/
theorem final19 (c : Dev nD) :
    (dats m 0 c).arrAt 19 cfg0.N = Cert.InpReferenceIdeal.Read.val_main_v50 (F := Ideal) (arg m c main_arg0) (arg m c main_arg1) (arg m c main_arg2) (arg m c main_arg3) (arg m c main_arg4) := by
  refine (dats m 0 c).arrAt_eq_of_covers 19 _ (by decide +kernel) fun t hfl y => ?_
  blk_simp
  rw [after0_19]
  idx_vars y
  generalize hz : ((View.whole main_v0_4).slice (win0_19.rect t)).emb (ix3 y0 y1 y2) = z
  have h0 : z 0 = y0 := by refine Fin.ext ?_; rw [← hz]; blk_simp [(e_heads t).2.1]
  have h1 : (z 1).val = 512 * t.val + y1.val := by rw [← hz]; blk_simp [(e_heads t).2.1]; ring
  have h2 : z 2 = y2 := by refine Fin.ext ?_; rw [← hz]; blk_simp [(e_heads t).2.1]
  clear hz
  idx_vars z
  obtain rfl : z0 = y0 := h0
  obtain rfl : z2 = y2 := h2
  have p : 128 * z0.val + z2.val < 1024 := by have := z0.isLt; have := z2.isLt; omega
  refine (left19 m c t z0 z2 y1 ⟨128 * z0.val + z2.val, p⟩ rfl).trans ((pay27_apply _ _ _ _).trans
    (Eq.trans ?_ (Cert.InpReferenceIdeal.Op.v50_apply _ _ _ _ _ z0 z2 z1 (by omega)).symm))
  exact dot_eq m c t y1 _ z1 h1 _ fun k => blk6 m c t _ k _

/-- The values' array: the reference's. -/
theorem final20 (c : Dev nD) :
    (dats m 0 c).arrAt 20 cfg0.N = Cert.InpReferenceIdeal.Read.val_main_v52 (F := Ideal) (arg m c main_arg0) (arg m c main_arg1) (arg m c main_arg2) (arg m c main_arg3) (arg m c main_arg4) := by
  refine (dats m 0 c).arrAt_eq_of_covers 20 _ (by decide +kernel) fun t hfl y => ?_
  blk_simp
  rw [after0_20]
  idx_vars y
  generalize hz : ((View.whole main_v0_5).slice (win0_20.rect t)).emb (ix3 y0 y1 y2) = z
  have h0 : z 0 = y0 := by refine Fin.ext ?_; rw [← hz]; blk_simp [(e_heads t).2.2]
  have h2 : (z 2).val = 512 * t.val + y2.val := by rw [← hz]; blk_simp [(e_heads t).2.2]; ring
  have h1 : z 1 = y1 := by refine Fin.ext ?_; rw [← hz]; blk_simp [(e_heads t).2.2]
  clear hz
  idx_vars z
  obtain rfl : z0 = y0 := h0
  obtain rfl : z1 = y1 := h1
  have p : 128 * z0.val + z1.val < 1024 := by have := z0.isLt; have := z1.isLt; omega
  refine (left20 m c t z0 z1 y2 ⟨128 * z0.val + z1.val, p⟩ rfl).trans ((pay28_apply _ _ _ _).trans
    (Eq.trans ?_ (Cert.InpReferenceIdeal.Op.v52_apply _ _ _ _ _ z0 z1 z2 (by omega)).symm))
  exact dot_eq m c t y2 _ z2 h2 _ fun k => blk7 m c t _ k _

end Cert.InpIdeal.Op

end
-- ==== Proof.lean ====
/- The proof of the claims about the input projection's call, the attention call, the output projection's call and the feed-forward call. -/
module

public import proofs.«01_k».proof.Defs
public import proofs.«01_k».proof.Proof.AttRun
public import proofs.«01_k».proof.Proof.AttIdealRun
public import proofs.«01_k».proof.Proof.AttFinal
public import proofs.«01_k».proof.Proof.FfnRun
public import proofs.«01_k».proof.Proof.FfnIdealRun
public import proofs.«01_k».proof.Proof.FfnFinal
public import proofs.«01_k».proof.Proof.OutFinal
public import proofs.«01_k».proof.Proof.InpFinal
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpIdeal.Value
public import proofs.«01_k».proof.Proof.Gen.OutpReferenceIdeal
public import proofs.«01_k».proof.Proof.Gen.OutpReferenceIdeal.Run
public import proofs.«01_k».proof.Proof.Gen.OutpReferenceIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpReferenceIdeal
public import proofs.«01_k».proof.Proof.Gen.InpReferenceIdeal.Run
public import proofs.«01_k».proof.Proof.Gen.InpReferenceIdeal.Read
public import Idealize.ShloMosaic.Lib.Quiescent
public import Idealize.ShloMosaic.Lib.Pipeline.Quiescent
public import Idealize.ShloMosaic.Adequacy
public import Idealize.ShloMosaic.Init

@[expose] public section

noncomputable section

namespace Cert.Proof

open Idealize.ShloMosaic Idealize.SL.Sem

/-- The attention kernel on words leaves its arguments and every semaphore as they were. -/
theorem frame_kernel : Cert.quiescent_Kernel (hKernel := Cert.Kernel.Gen.facts) := fun m g _ =>
  θ_run_with_sems (Cert.Kernel.Gen.frame_of m g (Cert.Kernel.Att.dats m) (Cert.Kernel.Att.A_eq m))
    (Cert.Kernel.Att.run_main m g)

/-- The attention kernel over the reals leaves its arguments and every semaphore as they were. -/
theorem frame_kernelIdeal : Cert.quiescent_KernelIdeal (hKernelIdeal := Cert.KernelIdeal.Gen.facts) := fun m g _ =>
  θ_run_with_sems (Cert.KernelIdeal.Gen.frame_of m g (Cert.KernelIdeal.Att.dats m) (Cert.KernelIdeal.Att.A_eq m))
    (Cert.KernelIdeal.Att.run_main m g)

/-- The attention reference leaves its arguments as they were; it has no semaphores. -/
theorem frame_referenceIdeal :
    Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩)
    (Cert.ReferenceIdeal.Value.run m g)

/-- The shapes the precondition is written with fit. -/
theorem facts_pre : Cert.Pre_finite_inputs.Facts := by constructor <;> decide

/-- Where the arguments hold no infinity, the attention kernel over the reals computes what the reference computes. -/
theorem value : Cert.algebraic_KernelIdeal_ReferenceIdeal_pre_finite_inputs (hKernelIdeal := Cert.KernelIdeal.Gen.facts)
    (hReferenceIdeal := Cert.ReferenceIdeal.Gen.facts) (hPre_finite_inputs := facts_pre) := by
  intro m g m' g' hp hm
  refine ⟨fun c => (Cert.KernelIdeal.Att.dats m 0 c).arrAt 8 Cert.KernelIdeal.cfg0.N,
    fun c => (Cert.KernelIdeal.Att.dats m 0 c).arrAt 9 Cert.KernelIdeal.cfg0.N,
    fun c => (Cert.KernelIdeal.Att.dats m 0 c).arrAt 10 Cert.KernelIdeal.cfg0.N,
    fun c => (Cert.KernelIdeal.Att.dats m 0 c).arrAt 11 Cert.KernelIdeal.cfg0.N, ?_, ?_⟩
  · refine (θ_run _ _ _).mono (fun r h c => ?_) (Cert.KernelIdeal.Att.run_main m g)
    have a := Cert.KernelIdeal.Att.A_eq m c
    have hin := fun w hw => (h.1.in_eq c w hw).trans (a w)
    exact ⟨h.1.out_eq c 8, h.1.out_eq c 9, h.1.out_eq c 10, h.1.out_eq c 11,
      (hin 0 rfl).trans (Cert.KernelIdeal.Gen.V_main_arg0 m c), (hin 1 rfl).trans (Cert.KernelIdeal.Gen.V_main_arg1 m c),
      (hin 2 rfl).trans (Cert.KernelIdeal.Gen.V_main_arg2 m c), (hin 3 rfl).trans (Cert.KernelIdeal.Gen.V_main_arg3 m c),
      (hin 4 rfl).trans (Cert.KernelIdeal.Gen.V_main_arg4 m c), (hin 5 rfl).trans (Cert.KernelIdeal.Gen.V_main_arg5 m c),
      (hin 6 rfl).trans (Cert.KernelIdeal.Gen.V_main_arg6 m c), (hin 7 rfl).trans (Cert.KernelIdeal.Gen.V_main_arg7 m c)⟩
  · refine (θ_run _ _ _).mono (fun r h c => ?_) (Cert.ReferenceIdeal.Value.run m' g')
    obtain ⟨h0, h1, h2, h3, hr⟩ := h c
    obtain ⟨a0, a1, a2, a3, a4, a5, a6, a7⟩ := hm c
    refine ⟨h0.trans ?_, h1.trans ?_, h2.trans ?_, h3.trans ?_, hr⟩
    · rw [Cert.ReferenceIdeal.Read.val_main_v37_eq, a0, a1, a2, a3, a4]
      exact (Cert.KernelIdeal.Att.final8 m c (@Cert.Pre_finite_inputs.reals facts_pre _ _ _ _ _ _ _ _ (hp c))).symm
    · rw [a5]
      exact (Cert.KernelIdeal.Att.final9 m c).symm
    · rw [a6]
      exact (Cert.KernelIdeal.Att.final10 m c).symm
    · rw [a7]
      exact (Cert.KernelIdeal.Att.final11 m c).symm

/-- The feed-forward kernel on words leaves its arguments and every semaphore as they were. -/
theorem frame_ffn : Cert.quiescent_Ffn (hFfn := Cert.Ffn.Gen.facts) := fun m g _ => Cert.Ffn.Ff.frame m g

/-- The feed-forward kernel over the reals leaves its arguments and every semaphore as they were. -/
theorem frame_ffnIdeal : Cert.quiescent_FfnIdeal (hFfnIdeal := Cert.FfnIdeal.Gen.facts) := fun m g _ => Cert.FfnIdeal.Ff.frame m g

/-- The feed-forward reference leaves its arguments as they were; it has no semaphores. -/
theorem frame_ffnReferenceIdeal :
    Cert.quiescent_FfnReferenceIdeal (hFfnReferenceIdeal := Cert.FfnReferenceIdeal.Gen.facts) := fun m g _ =>
  (θ_run _ _ _).mono (fun r h => ⟨fun c => (h c).2, sem_eq_zero_of_no_sems (by decide) r.2⟩)
    (Cert.FfnReferenceIdeal.Value.run m g)

/-- The feed-forward kernel over the reals computes what the reference computes, whatever the arguments hold. -/
theorem value_ffn : Cert.algebraic_FfnIdeal_FfnReferenceIdeal (hFfnIdeal := Cert.FfnIdeal.Gen.facts)
    (hFfnReferenceIdeal := Cert.FfnReferenceIdeal.Gen.facts) := by
  intro m g m' g' _ hm
  refine ⟨fun c => (Cert.FfnIdeal.Ff.dats m 0 c).arrAt 5 Cert.FfnIdeal.cfg0.N, ?_, ?_⟩
  · refine (θ_run _ _ _).mono (fun r h c => ?_) (Cert.FfnIdeal.Ff.run_main m g)
    have a := Cert.FfnIdeal.Ff.A_eq m c
    have hin := fun w hw => ((h.1 c).1 w).trans (((Cert.FfnIdeal.Ff.dats m 0 c).arrAt_in w hw _).trans (a w))
    exact ⟨(h.1 c).1 5, hin 0 rfl, hin 1 rfl, hin 2 rfl,
      (h.1 c).2 Cert.FfnIdeal.main_arg3 (Pipeline.mem_restRefs_of Cert.FfnIdeal.main_arg3 (by decide) (by decide)), hin 3 rfl, hin 4 rfl⟩
  · refine (θ_run _ _ _).mono (fun r h c => ?_) (Cert.FfnReferenceIdeal.Value.run m' g')
    obtain ⟨h0, hr⟩ := h c
    obtain ⟨a0, a1, a2, a3, a4, a5⟩ := hm c
    refine ⟨h0.trans ?_, hr⟩
    rw [Cert.FfnReferenceIdeal.Read.val_main_v21_eq, a0, a1, a2, a3, a4, a5]
    exact (Cert.FfnIdeal.Ff.final5 m c).symm

/-- The output projection's kernel on words leaves its arguments and every semaphore as they were. -/
theorem frame_outp : Cert.quiescent_Outp (hOutp := Cert.Outp.Gen.facts) := fun m g _ => Cert.Outp.Gen.frame m g

/-- The output projection's kernel over the reals leaves its arguments and every semaphore as they were. -/
theorem frame_outpIdeal : Cert.quiescent_OutpIdeal (hOutpIdeal := Cert.OutpIdeal.Gen.facts) := fun m g _ => Cert.OutpIdeal.Gen.frame m g

/-- The output projection's reference leaves its arguments as they were; it has no semaphores. -/
theorem frame_outpReferenceIdeal :
    Cert.quiescent_OutpReferenceIdeal (hOutpReferenceIdeal := Cert.OutpReferenceIdeal.Gen.facts) := fun m g _ =>
  (θ_run _ _ _).mono (fun r h => ⟨fun c => (h c).2.2, sem_eq_zero_of_no_sems (by decide) r.2⟩)
    (Cert.OutpReferenceIdeal.Value.run m g)

/-- The output projection's kernel over the reals computes what the reference computes, whatever the arguments hold. -/
theorem value_outp : Cert.algebraic_OutpIdeal_OutpReferenceIdeal (hOutpIdeal := Cert.OutpIdeal.Gen.facts)
    (hOutpReferenceIdeal := Cert.OutpReferenceIdeal.Gen.facts) := by
  intro m g m' g' _ hm
  refine ⟨fun c => (Cert.OutpIdeal.Gen.dats m 0 c).arrAt 11 Cert.OutpIdeal.cfg0.N,
    fun c => (Cert.OutpIdeal.Gen.dats m 0 c).arrAt 12 Cert.OutpIdeal.cfg0.N, ?_, ?_⟩
  · exact Cert.OutpIdeal.Value.run_blocks m g
  · refine (θ_run _ _ _).mono (fun r h c => ?_) (Cert.OutpReferenceIdeal.Value.run m' g')
    obtain ⟨h0, h1, hr⟩ := h c
    obtain ⟨a0, a1, a2, a3, a4, a5, a6, a7, a8, a9⟩ := hm c
    refine ⟨h0.trans ?_, h1.trans ?_, hr⟩
    · rw [Cert.OutpReferenceIdeal.Read.val_main_v31_eq, a0, a1, a2, a3, a4, a5, a6]
      exact (Cert.OutpIdeal.Op.final11 m c).symm
    · rw [Cert.OutpReferenceIdeal.Read.val_main_v50_eq, a0, a1, a2, a3, a4, a5, a6, a7, a8, a9]
      exact (Cert.OutpIdeal.Op.final12 m c).symm

/-- The input projection's kernel on words leaves its arguments and every semaphore as they were. -/
theorem frame_inp : Cert.quiescent_Inp (hInp := Cert.Inp.Gen.facts) := fun m g _ => Cert.Inp.Gen.frame m g

/-- The input projection's kernel over the reals leaves its arguments and every semaphore as they were. -/
theorem frame_inpIdeal : Cert.quiescent_InpIdeal (hInpIdeal := Cert.InpIdeal.Gen.facts) := fun m g _ => Cert.InpIdeal.Gen.frame m g

/-- The input projection's reference leaves its arguments as they were; it has no semaphores. -/
theorem frame_inpReferenceIdeal :
    Cert.quiescent_InpReferenceIdeal (hInpReferenceIdeal := Cert.InpReferenceIdeal.Gen.facts) := fun m g _ =>
  (θ_run _ _ _).mono (fun r h => ⟨fun c => (h c).2.2.2.2.2, sem_eq_zero_of_no_sems (by decide) r.2⟩)
    (Cert.InpReferenceIdeal.Value.run m g)

/-- The input projection's kernel over the reals computes, for five of its results, what the reference computes, whatever the
    arguments hold. -/
theorem value_inp : Cert.algebraic_InpIdeal_InpReferenceIdeal (hInpIdeal := Cert.InpIdeal.Gen.facts)
    (hInpReferenceIdeal := Cert.InpReferenceIdeal.Gen.facts) := by
  intro m g m' g' _ hm
  refine ⟨fun c => (Cert.InpIdeal.Gen.dats m 0 c).arrAt 17 Cert.InpIdeal.cfg0.N,
    fun c => (Cert.InpIdeal.Gen.dats m 0 c).arrAt 18 Cert.InpIdeal.cfg0.N,
    fun c => (Cert.InpIdeal.Gen.dats m 0 c).arrAt 19 Cert.InpIdeal.cfg0.N,
    fun c => (Cert.InpIdeal.Gen.dats m 0 c).arrAt 20 Cert.InpIdeal.cfg0.N,
    fun c => (Cert.InpIdeal.Gen.dats m 0 c).arrAt 21 Cert.InpIdeal.cfg0.N, ?_, ?_⟩
  · exact (θ_run _ _ _).mono (fun r h c => (h c).2.2) (Cert.InpIdeal.Value.run_blocks m g)
  · refine (θ_run _ _ _).mono (fun r h c => ?_) (Cert.InpReferenceIdeal.Value.run m' g')
    obtain ⟨h0, h1, h2, h3, h4, hr⟩ := h c
    obtain ⟨a0, a1, a2, a3, a4, a5, -⟩ := hm c
    refine ⟨h0.trans ?_, h1.trans ?_, h2.trans ?_, h3.trans ?_, h4.trans ?_, hr⟩
    · rw [Cert.InpReferenceIdeal.Read.val_main_v46_eq, a0, a1, a2, a3, a4]
      exact (Cert.InpIdeal.Op.final17 m c).symm
    · rw [Cert.InpReferenceIdeal.Read.val_main_v48_eq, a0, a1, a2, a3, a4]
      exact (Cert.InpIdeal.Op.final18 m c).symm
    · rw [Cert.InpReferenceIdeal.Read.val_main_v50_eq, a0, a1, a2, a3, a4]
      exact (Cert.InpIdeal.Op.final19 m c).symm
    · rw [Cert.InpReferenceIdeal.Read.val_main_v52_eq, a0, a1, a2, a3, a4]
      exact (Cert.InpIdeal.Op.final20 m c).symm
    · rw [Cert.InpReferenceIdeal.Read.val_main_v32_eq, a0, a1, a2, a3, a5]
      exact (Cert.InpIdeal.Op.final21 m c).symm

/-- The claims, together. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Outp.Gen.facts, Cert.OutpIdeal.Gen.facts, Cert.OutpReferenceIdeal.Gen.facts,
    Cert.Inp.Gen.facts, Cert.InpIdeal.Gen.facts, Cert.InpReferenceIdeal.Gen.facts, facts_pre,
    frame_kernel, frame_kernelIdeal, fun m g _ => frame_kernelIdeal m g trivial,
    frame_referenceIdeal, fun m g _ => frame_referenceIdeal m g trivial,
    frame_ffn, frame_ffnIdeal, frame_ffnReferenceIdeal, frame_outp, frame_outpIdeal, frame_outpReferenceIdeal,
    frame_inp, frame_inpIdeal, frame_inpReferenceIdeal, trivial, value, trivial, value_ffn, trivial, value_outp, trivial, value_inp⟩

end Cert.Proof

end
